-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v15)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v46_0)) (v1 : (c : Dev Cert.InProjIdeal.nD) → Buf (Elt Ideal) ((c.tc : Thread Cert.InProjIdeal.nD Cert.InProjIdeal.τ).loc Cert.InProjIdeal.main_v46_1)) (v2 : (c : Dev Cert.InProjIdeal.nD) → Buf (Elt Ideal) ((c.tc : Thread Cert.InProjIdeal.nD Cert.InProjIdeal.τ).loc Cert.InProjIdeal.main_v46_2)) (v3 : (c : Dev Cert.InProjIdeal.nD) → Buf (Elt Ideal) ((c.tc : Thread Cert.InProjIdeal.nD Cert.InProjIdeal.τ).loc Cert.InProjIdeal.main_v46_3)) (v4 : (c : Dev Cert.InProjIdeal.nD) → Buf (Elt Ideal) ((c.tc : Thread Cert.InProjIdeal.nD Cert.InProjIdeal.τ).loc Cert.InProjIdeal.main_v46_4)) (v5 : (c : Dev Cert.InProjIdeal.nD) → Buf (Elt Ideal) ((c.tc : Thread Cert.InProjIdeal.nD Cert.InProjIdeal.τ).loc Cert.InProjIdeal.main_v46_5)) (v6 : (c : Dev Cert.InProjIdeal.nD) → Buf (Elt Ideal) ((c.tc : Thread Cert.InProjIdeal.nD Cert.InProjIdeal.τ).loc Cert.InProjIdeal.main_v46_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v46_0) = v0 c
          ∧ r.2.mem ((c.tc : Thread Cert.InProjIdeal.nD Cert.InProjIdeal.τ).loc Cert.InProjIdeal.main_v46_1) = v1 c
          ∧ r.2.mem ((c.tc : Thread Cert.InProjIdeal.nD Cert.InProjIdeal.τ).loc Cert.InProjIdeal.main_v46_2) = v2 c
          ∧ r.2.mem ((c.tc : Thread Cert.InProjIdeal.nD Cert.InProjIdeal.τ).loc Cert.InProjIdeal.main_v46_3) = v3 c
          ∧ r.2.mem ((c.tc : Thread Cert.InProjIdeal.nD Cert.InProjIdeal.τ).loc Cert.InProjIdeal.main_v46_4) = v4 c
          ∧ r.2.mem ((c.tc : Thread Cert.InProjIdeal.nD Cert.InProjIdeal.τ).loc Cert.InProjIdeal.main_v46_5) = v5 c
          ∧ r.2.mem ((c.tc : Thread Cert.InProjIdeal.nD Cert.InProjIdeal.τ).loc Cert.InProjIdeal.main_v46_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v104) = v0 c
          ∧ r.2.mem ((c.tc : Thread Cert.InProjRefIdeal.nD Cert.InProjRefIdeal.τ).loc Cert.InProjRefIdeal.main_v106) = v1 c
          ∧ r.2.mem ((c.tc : Thread Cert.InProjRefIdeal.nD Cert.InProjRefIdeal.τ).loc Cert.InProjRefIdeal.main_v108) = v2 c
          ∧ r.2.mem ((c.tc : Thread Cert.InProjRefIdeal.nD Cert.InProjRefIdeal.τ).loc Cert.InProjRefIdeal.main_v110) = v3 c
          ∧ r.2.mem ((c.tc : Thread Cert.InProjRefIdeal.nD Cert.InProjRefIdeal.τ).loc Cert.InProjRefIdeal.main_v112) = v4 c
          ∧ r.2.mem ((c.tc : Thread Cert.InProjRefIdeal.nD Cert.InProjRefIdeal.τ).loc Cert.InProjRefIdeal.main_v114) = v5 c
          ∧ r.2.mem ((c.tc : Thread Cert.InProjRefIdeal.nD Cert.InProjRefIdeal.τ).loc Cert.InProjRefIdeal.main_v116) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v7)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v7) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v17) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v6_0)) (v1 : (c : Dev Cert.MemKvIdeal.nD) → Buf (Elt Ideal) ((c.tc : Thread Cert.MemKvIdeal.nD Cert.MemKvIdeal.τ).loc Cert.MemKvIdeal.main_v6_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6_0) = v0 c
          ∧ r.2.mem ((c.tc : Thread Cert.MemKvIdeal.nD Cert.MemKvIdeal.τ).loc Cert.MemKvIdeal.main_v6_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v33) = v0 c
          ∧ r.2.mem ((c.tc : Thread Cert.MemKvRefIdeal.nD Cert.MemKvRefIdeal.τ).loc Cert.MemKvRefIdeal.main_v35) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hMemKv : Cert.MemKv.Facts) (hMemKvIdeal : Cert.MemKvIdeal.Facts) (hMemKvRefIdeal : Cert.MemKvRefIdeal.Facts) (hPre_finite_inputs : Cert.Pre_finite_inputs.Facts),
    quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal (hMixOutIdeal := hMixOutIdeal) (hMixOutRefIdeal := hMixOutRefIdeal)
    ∧ preserves_MemKv_MemKvIdeal
    ∧ algebraic_MemKvIdeal_MemKvRefIdeal (hMemKvIdeal := hMemKvIdeal) (hMemKvRefIdeal := hMemKvRefIdeal)
-- ==== Pre_finite_inputs.lean ====
abbrev S1x64 : Shape := ⟨2, ![1, 64]⟩
abbrev S1x128 : Shape := ⟨2, ![1, 128]⟩
abbrev S16x4096x1024 : Shape := ⟨3, ![16, 4096, 1024]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bitsLt_bf16_f32 : FTy.bits .bf16 < FTy.bits .f32
  bcast_S_S16x4096x1024 : S_.BroadcastsInDim S16x4096x1024 (![] : Fin 0 → Fin S16x4096x1024.rank)
  reducesTo_S16x4096x1024_S_d0_1_2 : S16x4096x1024.ReducesTo [0, 1, 2] S_

variable [Facts]

def fn_part1 {F : FTy → Type} [FloatOps F] (main_arg7 : FVec F S16x4096x1024 .bf16) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S16x4096x1024 .f32 := (extf .f32 · bitsLt_bf16_f32) main_arg7
  let main_v20 : FVec F S16x4096x1024 .f32 := Host.absf main_v19
  let main_cst_6 : FVec F S_ .f32 := constant S_ .f32 0x7F800000#32
  let main_v21 : FVec F S16x4096x1024 .f32 := broadcastInDim S16x4096x1024 ![] bcast_S_S16x4096x1024 main_cst_6
  let main_v22 : IVec S16x4096x1024 1 := cmpf .olt main_v20 main_v21
  let main_c_7 : IVec S_ 1 := constantI S_ 1 1#1
  let main_v23 : IVec S_ 1 := (fun x v => Host.reduce IntOp.andi x v reducesTo_S16x4096x1024_S_d0_1_2 h_S_) main_v22 main_c_7
  let main_v24 : IVec S_ 1 := andi main_v18 main_v23
  main_v24

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S16x4096x1024 .bf16) (main_arg6 : FVec F S16x4096x1024 .bf16) (main_arg7 : FVec F S16x4096x1024 .bf16) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg7 main_v13 main_v16
-- ==== Attn.lean ====
abbrev S1x64 : Shape := ⟨2, ![1, 64]⟩
abbrev S1x128 : Shape := ⟨2, ![1, 128]⟩
abbrev S16x4096x1024 : Shape := ⟨3, ![16, 4096, 1024]⟩
abbrev S64 : Shape := ⟨1, ![64]⟩
abbrev S_ : Shape := ⟨0, ![]⟩
abbrev S1x1 : Shape := ⟨2, ![1, 1]⟩
abbrev S128 : Shape := ⟨1, ![128]⟩
abbrev S1x512x128 : Shape := ⟨3, ![1, 512, 128]⟩
abbrev S1x4096x128 : Shape := ⟨3, ![1, 4096, 128]⟩
abbrev S1024x128 : Shape := ⟨2, ![1024, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩

abbrev nBuf : Space → Nat
  | .hbm => 27
  | .vmem => 12
  | .smem => 1
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S16x4096x1024, .bf16⟩
  | .hbm, ⟨6, _⟩ => ⟨S16x4096x1024, .bf16⟩
  | .hbm, ⟨7, _⟩ => ⟨S16x4096x1024, .bf16⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S128, .f32⟩
  | .hbm, ⟨25, _⟩ => ⟨S1x128, .f32⟩
  | .hbm, ⟨26, _⟩ => ⟨S16x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128, .f32⟩
  | .local _ .vmem, ⟨7, _⟩ => ⟨S1x512x128, .bf16⟩
  | .local _ .vmem, ⟨8, _⟩ => ⟨S1x512x128, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .smem, ⟨0, _⟩ => ⟨S1x1, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 8, 8], ![false, false, false]⟩

@[reducible] def k0_t1_loop (i : grid0.Coords) : Scf.Loop 32 :=
  let c0_i32_12 : BitVec 32 := 0#32
  let arg2 : BitVec 32 := BitVec.ofNat 32 (i 2).val
  let v23 : BitVec 32 := Scalar.subi arg2 c0_i32_12
  let c1_i32 : BitVec 32 := 1#32
  let v25 : BitVec 32 := Scalar.divsi v23 c1_i32
  let v26 : BitVec 32 := Scalar.muli v25 c1_i32
  let v27 : BitVec 32 := Scalar.addi c0_i32_12 v26
  let c1_i32_13 : BitVec 32 := 1#32
  ⟨c0_i32_12, v27, c1_i32_13⟩
def k0_mult1 (i : grid0.Coords) (k0_t1 : Fin (k0_t1_loop i).trips) : BitVec 32 :=
  let c0_i32_12 : BitVec 32 := 0#32
  let c1_i32_13 : BitVec 32 := 1#32
  let arg12 : BitVec 32 := Scf.iv c0_i32_12 c1_i32_13 k0_t1
  let c512_i32_67 : BitVec 32 := 512#32
  let v154 : BitVec 32 := Scalar.muli arg12 c512_i32_67
  v154
def k0_off1 (i : grid0.Coords) (k0_t1 : Fin (k0_t1_loop i).trips) : Fin 3 → Nat :=
  let c0_68 : Index := 0#32
  let c0_i32_12 : BitVec 32 := 0#32
  let c1_i32_13 : BitVec 32 := 1#32
  let arg12 : BitVec 32 := Scf.iv c0_i32_12 c1_i32_13 k0_t1
  let c512_i32_67 : BitVec 32 := 512#32
  let v154 : BitVec 32 := Scalar.muli arg12 c512_i32_67
  let v155 : BitVec 32 := v154
  let v156 : Index := Scalar.indexCast v155
  let c0_69 : Index := 0#32
  ![0, v156.toNat, 0]
@[reducible] def k0_t2_loop (i : grid0.Coords) : Scf.Loop 32 :=
  let c0_i32_12 : BitVec 32 := 0#32
  let arg2 : BitVec 32 := BitVec.ofNat 32 (i 2).val
  let v23 : BitVec 32 := Scalar.subi arg2 c0_i32_12
  let c1_i32 : BitVec 32 := 1#32
  let v25 : BitVec 32 := Scalar.divsi v23 c1_i32
  let v26 : BitVec 32 := Scalar.muli v25 c1_i32
  let v27 : BitVec 32 := Scalar.addi c0_i32_12 v26
  let v24 : BitVec 32 := Scalar.addi c0_i32_12 v23
  let c1_i32_14 : BitVec 32 := 1#32
  ⟨v27, v24, c1_i32_14⟩
def k0_mult2 (i : grid0.Coords) (k0_t2 : Fin (k0_t2_loop i).trips) : BitVec 32 :=
  let c0_i32_12 : BitVec 32 := 0#32
  let arg2 : BitVec 32 := BitVec.ofNat 32 (i 2).val
  let v23 : BitVec 32 := Scalar.subi arg2 c0_i32_12
  let c1_i32 : BitVec 32 := 1#32
  let v25 : BitVec 32 := Scalar.divsi v23 c1_i32
  let v26 : BitVec 32 := Scalar.muli v25 c1_i32
  let v27 : BitVec 32 := Scalar.addi c0_i32_12 v26
  let c1_i32_14 : BitVec 32 := 1#32
  let arg12 : BitVec 32 := Scf.iv v27 c1_i32_14 k0_t2
  let c512_i32_67 : BitVec 32 := 512#32
  let v154 : BitVec 32 := Scalar.muli arg12 c512_i32_67
  v154
def k0_off2 (i : grid0.Coords) (k0_t2 : Fin (k0_t2_loop i).trips) : Fin 3 → Nat :=
  let c0_68 : Index := 0#32
  let c0_i32_12 : BitVec 32 := 0#32
  let arg2 : BitVec 32 := BitVec.ofNat 32 (i 2).val
  let v23 : BitVec 32 := Scalar.subi arg2 c0_i32_12
  let c1_i32 : BitVec 32 := 1#32
  let v25 : BitVec 32 := Scalar.divsi v23 c1_i32
  let v26 : BitVec 32 := Scalar.muli v25 c1_i32
  let v27 : BitVec 32 := Scalar.addi c0_i32_12 v26
  let c1_i32_14 : BitVec 32 := 1#32
  let arg12 : BitVec 32 := Scf.iv v27 c1_i32_14 k0_t2
  let c512_i32_67 : BitVec 32 := 512#32
  let v154 : BitVec 32 := Scalar.muli arg12 c512_i32_67
  let v155 : BitVec 32 := v154
  let v156 : Index := Scalar.indexCast v155
  let c0_69 : Index := 0#32
  ![0, v156.toNat, 0]
def k0_mult3 (i : grid0.Coords) : BitVec 32 :=
  let arg2 : BitVec 32 := BitVec.ofNat 32 (i 2).val
  let c512_i32_16 : BitVec 32 := 512#32
  let v35 : BitVec 32 := Scalar.muli arg2 c512_i32_16
  v35
def k0_off3 (i : grid0.Coords) : Fin 3 → Nat :=
  let c0_31 : Index := 0#32
  let arg2 : BitVec 32 := BitVec.ofNat 32 (i 2).val
  let c512_i32_16 : BitVec 32 := 512#32
  let v35 : BitVec 32 := Scalar.muli arg2 c512_i32_16
  let v36 : BitVec 32 := v35
  let v86 : Index := Scalar.indexCast v36
  let c0_32 : Index := 0#32
  ![0, v86.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S1x64 : Shape := ⟨2, ![1, 64]⟩
abbrev S1x128 : Shape := ⟨2, ![1, 128]⟩
abbrev S16x4096x1024 : Shape := ⟨3, ![16, 4096, 1024]⟩
abbrev S64 : Shape := ⟨1, ![64]⟩
abbrev S_ : Shape := ⟨0, ![]⟩
abbrev S16x4096x8x2x64 : Shape := ⟨5, ![16, 4096, 8, 2, 64]⟩
abbrev S16x4096x8x128 : Shape := ⟨4, ![16, 4096, 8, 128]⟩
abbrev S16x8x2x4096x4096 : Shape := ⟨5, ![16, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x2x4096 : Shape := ⟨4, ![16, 8, 2, 4096]⟩
abbrev S16x8x2x4096x1 : Shape := ⟨5, ![16, 8, 2, 4096, 1]⟩
abbrev S16x8x1x4096x4096 : Shape := ⟨5, ![16, 8, 1, 4096, 4096]⟩
abbrev S16x8x4096x4096 : Shape := ⟨4, ![16, 8, 4096, 4096]⟩
abbrev S16x8x128x4096 : Shape := ⟨4, ![16, 8, 128, 4096]⟩
abbrev S128 : Shape := ⟨1, ![128]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S16x4096x1024, .bf16⟩
  | .hbm, ⟨6, _⟩ => ⟨S16x4096x1024, .bf16⟩
  | .hbm, ⟨7, _⟩ => ⟨S16x4096x1024, .bf16⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x4096x1024, .f32⟩
  | .hbm, ⟨24, _⟩ => ⟨S16x4096x8x2x64, .f32⟩
  | .hbm, ⟨25, _⟩ => ⟨S16x4096x1024, .f32⟩
  | .hbm, ⟨26, _⟩ => ⟨S16x4096x8x2x64, .f32⟩
  | .hbm, ⟨27, _⟩ => ⟨S16x4096x1024, .f32⟩
  | .hbm, ⟨28, _⟩ => ⟨S16x4096x8x128, .f32⟩
  | .hbm, ⟨29, _⟩ => ⟨S16x8x2x4096x4096, .f32⟩
  | .hbm, ⟨30, _⟩ => ⟨S4096, .i32⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S1x4096, .i32⟩
  | .hbm, ⟨50, _⟩ => ⟨S4096, .i32⟩
  | .hbm, ⟨51, _⟩ => ⟨S_, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S4096, .i32⟩
  | .hbm, ⟨60, _⟩ => ⟨S4096, .i32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S_, .f32⟩
  | .hbm, ⟨74, _⟩ => ⟨S_, .f32⟩
  | .hbm, ⟨75, _⟩ => ⟨S16x8x2x4096x4096, .i1⟩
  | .hbm, ⟨76, _⟩ => ⟨S16x8x2x4096x4096, .f32⟩
  | .hbm, ⟨77, _⟩ => ⟨S16x8x2x4096x4096, .f32⟩
  | .hbm, ⟨78, _⟩ => ⟨S_, .f32⟩
  | .hbm, ⟨79, _⟩ => ⟨S16x8x2x4096, .f32⟩
  | .hbm, ⟨80, _⟩ => ⟨S_, .f32⟩
  | .hbm, ⟨81, _⟩ => ⟨S16x8x2x4096, .f32⟩
  | .hbm, ⟨82, _⟩ => ⟨S16x8x2x4096, .f32⟩
  | .hbm, ⟨83, _⟩ => ⟨S16x8x2x4096x1, .f32⟩
  | .hbm, ⟨84, _⟩ => ⟨S16x8x2x4096x4096, .f32⟩
  | .hbm, ⟨85, _⟩ => ⟨S16x8x2x4096x4096, .f32⟩
  | .hbm, ⟨86, _⟩ => ⟨S16x8x2x4096x4096, .f32⟩
  | .hbm, ⟨87, _⟩ => ⟨S_, .f32⟩
  | .hbm, ⟨88, _⟩ => ⟨S16x8x2x4096, .f32⟩
  | .hbm, ⟨89, _⟩ => ⟨S16x8x2x4096x1, .f32⟩
  | .hbm, ⟨90, _⟩ => ⟨S16x8x2x4096x4096, .f32⟩
  | .hbm, ⟨91, _⟩ => ⟨S16x8x2x4096x4096, .f32⟩
  | .hbm, ⟨92, _⟩ => ⟨S16x8x1x4096x4096, .f32⟩
  | .hbm, ⟨93, _⟩ => ⟨S16x8x4096x4096, .f32⟩
  | .hbm, ⟨94, _⟩ => ⟨S16x8x1x4096x4096, .f32⟩
  | .hbm, ⟨95, _⟩ => ⟨S16x8x4096x4096, .f32⟩
  | .hbm, ⟨96, _⟩ => ⟨S16x8x4096x4096, .f32⟩
  | .hbm, ⟨97, _⟩ => ⟨S16x8x4096x4096, .f32⟩
  | .hbm, ⟨98, _⟩ => ⟨S16x8x4096x4096, .f32⟩
  | .hbm, ⟨99, _⟩ => ⟨S16x8x128x4096, .f32⟩
  | .hbm, ⟨100, _⟩ => ⟨S16x4096x8x128, .f32⟩
  | .hbm, ⟨101, _⟩ => ⟨S128, .f32⟩
  | .hbm, ⟨102, _⟩ => ⟨S16x4096x8x128, .f32⟩
  | .hbm, ⟨103, _⟩ => ⟨S_, .f32⟩
  | .hbm, ⟨104, _⟩ => ⟨S16x4096x8, .f32⟩
  | .hbm, ⟨105, _⟩ => ⟨S16x4096x8x1, .f32⟩
  | .hbm, ⟨106, _⟩ => ⟨S_, .f32⟩
  | .hbm, ⟨107, _⟩ => ⟨S16x4096x8x1, .f32⟩
  | .hbm, ⟨108, _⟩ => ⟨S16x4096x8x1, .f32⟩
  | .hbm, ⟨109, _⟩ => ⟨S_, .f32⟩
  | .hbm, ⟨110, _⟩ => ⟨S16x4096x8x1, .f32⟩
  | .hbm, ⟨111, _⟩ => ⟨S16x4096x8x1, .f32⟩
  | .hbm, ⟨112, _⟩ => ⟨S16x4096x8x1, .f32⟩
  | .hbm, ⟨113, _⟩ => ⟨S16x4096x8x128, .f32⟩
  | .hbm, ⟨114, _⟩ => ⟨S16x4096x8x128, .f32⟩
  | .hbm, ⟨115, _⟩ => ⟨S1x1x1x128, .f32⟩
  | .hbm, ⟨116, _⟩ => ⟨S16x4096x8x128, .f32⟩
  | .hbm, ⟨117, _⟩ => ⟨S16x4096x8x128, .f32⟩
  | .hbm, ⟨118, _⟩ => ⟨S_, .f32⟩
  | .hbm, ⟨119, _⟩ => ⟨S16x4096x8x128, .f32⟩
  | .hbm, ⟨120, _⟩ => ⟨S16x4096x8x128, .f32⟩
  | .hbm, ⟨121, _⟩ => ⟨S16x4096x1024, .f32⟩
  | .hbm, ⟨122, _⟩ => ⟨S16x4096x1024, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_3 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v28 : Ref sig .tc := ⟨.hbm, 77, rfl⟩
abbrev main_cst_4 : Ref sig .tc := ⟨.hbm, 78, rfl⟩
abbrev main_v29 : Ref sig .tc := ⟨.hbm, 79, rfl⟩
abbrev main_cst_5 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_6 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_7 : Ref sig .tc := ⟨.hbm, 103, rfl⟩
abbrev main_v51 : Ref sig .tc := ⟨.hbm, 104, rfl⟩
abbrev main_v52 : Ref sig .tc := ⟨.hbm, 105, rfl⟩
abbrev main_cst_8 : Ref sig .tc := ⟨.hbm, 106, rfl⟩
abbrev main_v53 : Ref sig .tc := ⟨.hbm, 107, rfl⟩
abbrev main_v54 : Ref sig .tc := ⟨.hbm, 108, rfl⟩
abbrev main_cst_9 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_10 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩

abbrev nD : Nat := 1
abbrev τ : Topo := Topo.v7x

variable {F : FTy → Type} [FloatOps F]
-- ==== InProj.lean ====
abbrev S16x4096x1024 : Shape := ⟨3, ![16, 4096, 1024]⟩
abbrev S16x4096 : Shape := ⟨2, ![16, 4096]⟩
abbrev S1x1024 : Shape := ⟨2, ![1, 1024]⟩
abbrev S1x1024x7168 : Shape := ⟨3, ![1, 1024, 7168]⟩
abbrev S1x64 : Shape := ⟨2, ![1, 64]⟩
abbrev S8 : Shape := ⟨1, ![8]⟩
abbrev S_ : Shape := ⟨0, ![]⟩
abbrev S65536x1 : Shape := ⟨2, ![65536, 1]⟩
abbrev S1x8 : Shape := ⟨2, ![1, 8]⟩
abbrev S65536x8 : Shape := ⟨2, ![65536, 8]⟩
abbrev S65536x48 : Shape := ⟨2, ![65536, 48]⟩
abbrev S65536x64 : Shape := ⟨2, ![65536, 64]⟩
abbrev S65536x56 : Shape := ⟨2, ![65536, 56]⟩
abbrev S1x65536x1x64 : Shape := ⟨4, ![1, 65536, 1, 64]⟩
abbrev S1x65536x2x64 : Shape := ⟨4, ![1, 65536, 2, 64]⟩
abbrev S65536x128 : Shape := ⟨2, ![65536, 128]⟩
abbrev S65536x1024 : Shape := ⟨2, ![65536, 1024]⟩
abbrev S1024 : Shape := ⟨1, ![1024]⟩
abbrev S1024x7168 : Shape := ⟨2, ![1024, 7168]⟩
abbrev S64 : Shape := ⟨1, ![64]⟩
abbrev S1x1x1x64 : Shape := ⟨4, ![1, 1, 1, 64]⟩
abbrev S1x1x2x64 : Shape := ⟨4, ![1, 1, 2, 64]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S128x128 : Shape := ⟨2, ![128, 128]⟩

abbrev nBuf : Space → Nat
  | .hbm => 65
  | .vmem => 26
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S1x1024, .f32⟩
  | .hbm, ⟨3, _⟩ => ⟨S1x1024x7168, .f32⟩
  | .hbm, ⟨4, _⟩ => ⟨S1x64, .f32⟩
  | .hbm, ⟨5, _⟩ => ⟨S1x64, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S16x4096, .f32⟩
  | .hbm, ⟨15, _⟩ => ⟨S65536x1, .f32⟩
  | .hbm, ⟨16, _⟩ => ⟨S1x8, .f32⟩
  | .hbm, ⟨17, _⟩ => ⟨S65536x8, .f32⟩
  | .hbm, ⟨18, _⟩ => ⟨S65536x8, .f32⟩
  | .hbm, ⟨19, _⟩ => ⟨S65536x8, .f32⟩
  | .hbm, ⟨20, _⟩ => ⟨S65536x8, .f32⟩
  | .hbm, ⟨21, _⟩ => ⟨S65536x8, .f32⟩
  | .hbm, ⟨22, _⟩ => ⟨S_, .f32⟩
  | .hbm, ⟨23, _⟩ => ⟨S65536x48, .f32⟩
  | .hbm, ⟨24, _⟩ => ⟨S65536x64, .f32⟩
  | .hbm, ⟨25, _⟩ => ⟨S65536x8, .f32⟩
  | .hbm, ⟨26, _⟩ => ⟨S_, .f32⟩
  | .hbm, ⟨27, _⟩ => ⟨S65536x56, .f32⟩
  | .hbm, ⟨28, _⟩ => ⟨S65536x64, .f32⟩
  | .hbm, ⟨29, _⟩ => ⟨S_, .f32⟩
  | .hbm, ⟨30, _⟩ => ⟨S65536x8, .f32⟩
  | .hbm, ⟨31, _⟩ => ⟨S_, .f32⟩
  | .hbm, ⟨32, _⟩ => ⟨S65536x48, .f32⟩
  | .hbm, ⟨33, _⟩ => ⟨S65536x64, .f32⟩
  | .hbm, ⟨34, _⟩ => ⟨S1x65536x1x64, .f32⟩
  | .hbm, ⟨35, _⟩ => ⟨S1x65536x2x64, .f32⟩
  | .hbm, ⟨36, _⟩ => ⟨S65536x128, .f32⟩
  | .hbm, ⟨37, _⟩ => ⟨S1x65536x1x64, .f32⟩
  | .hbm, ⟨38, _⟩ => ⟨S1x65536x2x64, .f32⟩
  | .hbm, ⟨39, _⟩ => ⟨S65536x128, .f32⟩
  | .hbm, ⟨40, _⟩ => ⟨S1x65536x1x64, .f32⟩
  | .hbm, ⟨41, _⟩ => ⟨S1x65536x2x64, .f32⟩
  | .hbm, ⟨42, _⟩ => ⟨S65536x128, .f32⟩
  | .hbm, ⟨43, _⟩ => ⟨S65536x1024, .f32⟩
  | .hbm, ⟨44, _⟩ => ⟨S1024, .f32⟩
  | .hbm, ⟨45, _⟩ => ⟨S1x1024, .f32⟩
  | .hbm, ⟨46, _⟩ => ⟨S1024x7168, .f32⟩
  | .hbm, ⟨47, _⟩ => ⟨S1024x7168, .bf16⟩
  | .hbm, ⟨48, _⟩ => ⟨S64, .f32⟩
  | .hbm, ⟨49, _⟩ => ⟨S1x64, .f32⟩
  | .hbm, ⟨50, _⟩ => ⟨S1x1x1x64, .f32⟩
  | .hbm, ⟨51, _⟩ => ⟨S1x1x2x64, .f32⟩
  | .hbm, ⟨52, _⟩ => ⟨S1x128, .f32⟩
  | .hbm, ⟨53, _⟩ => ⟨S64, .f32⟩
  | .hbm, ⟨54, _⟩ => ⟨S1x64, .f32⟩
  | .hbm, ⟨55, _⟩ => ⟨S1x1x1x64, .f32⟩
  | .hbm, ⟨56, _⟩ => ⟨S1x1x2x64, .f32⟩
  | .hbm, ⟨57, _⟩ => ⟨S1x128, .f32⟩
  | .hbm, ⟨58, _⟩ => ⟨S65536x1024, .bf16⟩
  | .hbm, ⟨59, _⟩ => ⟨S65536x1024, .bf16⟩
  | .hbm, ⟨60, _⟩ => ⟨S65536x1024, .bf16⟩
  | .hbm, ⟨61, _⟩ => ⟨S65536x1024, .bf16⟩
  | .hbm, ⟨62, _⟩ => ⟨S65536x1024, .bf16⟩
  | .hbm, ⟨63, _⟩ => ⟨S65536x1024, .bf16⟩
  | .hbm, ⟨64, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7168, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev main_v46_3 : Ref sig .tc := ⟨.hbm, 61, rfl⟩
abbrev main_v46_4 : Ref sig .tc := ⟨.hbm, 62, rfl⟩
abbrev main_v46_5 : Ref sig .tc := ⟨.hbm, 63, rfl⟩
abbrev main_v46_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InProjRefIdeal.lean ====
abbrev S16x4096x1024 : Shape := ⟨3, ![16, 4096, 1024]⟩
abbrev S16x4096 : Shape := ⟨2, ![16, 4096]⟩
abbrev S1x1024 : Shape := ⟨2, ![1, 1024]⟩
abbrev S1x1024x7168 : Shape := ⟨3, ![1, 1024, 7168]⟩
abbrev S1x64 : Shape := ⟨2, ![1, 64]⟩
abbrev S8 : Shape := ⟨1, ![8]⟩
abbrev S_ : Shape := ⟨0, ![]⟩
abbrev S16x4096x1 : Shape := ⟨3, ![16, 4096, 1]⟩
abbrev S1x1x8 : Shape := ⟨3, ![1, 1, 8]⟩
abbrev S16x4096x8 : Shape := ⟨3, ![16, 4096, 8]⟩
abbrev S16x4096x1x1x8 : Shape := ⟨5, ![16, 4096, 1, 1, 8]⟩
abbrev S1024 : Shape := ⟨1, ![1024]⟩
abbrev S1x1x1024 : Shape := ⟨3, ![1, 1, 1024]⟩
abbrev S1024x7168 : Shape := ⟨2, ![1024, 7168]⟩
abbrev S16x4096x7168 : Shape := ⟨3, ![16, 4096, 7168]⟩
abbrev S16x4096x8x2x64 : Shape := ⟨5, ![16, 4096, 8, 2, 64]⟩
abbrev S64 : Shape := ⟨1, ![64]⟩
abbrev S16x4096x8x2 : Shape := ⟨4, ![16, 4096, 8, 2]⟩
abbrev S16x4096x8x2x1 : Shape := ⟨5, ![16, 4096, 8, 2, 1]⟩
abbrev S1x1x1x1x64 : Shape := ⟨5, ![1, 1, 1, 1, 64]⟩
abbrev S16x4096x8x2x16 : Shape := ⟨5, ![16, 4096, 8, 2, 16]⟩
abbrev S16x4096x8x2x8 : Shape := ⟨5, ![16, 4096, 8, 2, 8]⟩
abbrev S16x4096x8x2x48 : Shape := ⟨5, ![16, 4096, 8, 2, 48]⟩
abbrev S65536x1024 : Shape := ⟨2, ![65536, 1024]⟩

abbrev nBuf : Space → Nat
  | .hbm => 135
  | .vmem => 0
  | .smem => 0
  | _ => 0

abbrev hbmTy0_0 (i : Nat) : BufTy := match i % 128 with
  | 0 => ⟨S16x4096x1024, .f32⟩
  | 1 => ⟨S16x4096, .i32⟩
  | 2 => ⟨S1x1024, .f32⟩
  | 3 => ⟨S1x1024x7168, .f32⟩
  | 4 => ⟨S1x64, .f32⟩
  | 5 => ⟨S1x64, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S16x4096, .f32⟩
  | 15 => ⟨S16x4096x1, .f32⟩
  | 16 => ⟨S1x1x8, .f32⟩
  | 17 => ⟨S16x4096x8, .f32⟩
  | 18 => ⟨S16x4096x8, .f32⟩
  | 19 => ⟨S16x4096x8, .f32⟩
  | 20 => ⟨S16x4096x8, .f32⟩
  | 21 => ⟨S16x4096x1x1x8, .f32⟩
  | 22 => ⟨S16x4096x8, .f32⟩
  | 23 => ⟨S16x4096x1x1x8, .f32⟩
  | 24 => ⟨S1024, .f32⟩
  | 25 => ⟨S16x4096x1024, .f32⟩
  | 26 => ⟨S_, .f32⟩
  | 27 => ⟨S16x4096, .f32⟩
  | 28 => ⟨S16x4096x1, .f32⟩
  | 29 => ⟨S_, .f32⟩
  | 30 => ⟨S16x4096x1, .f32⟩
  | 31 => ⟨S16x4096x1, .f32⟩
  | 32 => ⟨S_, .f32⟩
  | 33 => ⟨S16x4096x1, .f32⟩
  | 34 => ⟨S16x4096x1, .f32⟩
  | 35 => ⟨S16x4096x1, .f32⟩
  | 36 => ⟨S16x4096x1024, .f32⟩
  | 37 => ⟨S16x4096x1024, .f32⟩
  | 38 => ⟨S1x1x1024, .f32⟩
  | 39 => ⟨S16x4096x1024, .f32⟩
  | 40 => ⟨S16x4096x1024, .f32⟩
  | 41 => ⟨S1024x7168, .f32⟩
  | 42 => ⟨S16x4096x7168, .f32⟩
  | 43 => ⟨S16x4096x1024, .f32⟩
  | 44 => ⟨S16x4096x1024, .f32⟩
  | 45 => ⟨S16x4096x1024, .f32⟩
  | 46 => ⟨S16x4096x1024, .f32⟩
  | 47 => ⟨S16x4096x1024, .f32⟩
  | 48 => ⟨S16x4096x1024, .f32⟩
  | 49 => ⟨S16x4096x1024, .f32⟩
  | 50 => ⟨S16x4096x8x2x64, .f32⟩
  | 51 => ⟨S16x4096x8x2x64, .f32⟩
  | 52 => ⟨S64, .f32⟩
  | 53 => ⟨S16x4096x8x2x64, .f32⟩
  | 54 => ⟨S_, .f32⟩
  | 55 => ⟨S16x4096x8x2, .f32⟩
  | 56 => ⟨S16x4096x8x2x1, .f32⟩
  | 57 => ⟨S_, .f32⟩
  | 58 => ⟨S16x4096x8x2x1, .f32⟩
  | 59 => ⟨S16x4096x8x2x1, .f32⟩
  | 60 => ⟨S_, .f32⟩
  | 61 => ⟨S16x4096x8x2x1, .f32⟩
  | 62 => ⟨S16x4096x8x2x1, .f32⟩
  | 63 => ⟨S16x4096x8x2x1, .f32⟩
  | 64 => ⟨S16x4096x8x2x64, .f32⟩
  | 65 => ⟨S16x4096x8x2x64, .f32⟩
  | 66 => ⟨S1x1x1x1x64, .f32⟩
  | 67 => ⟨S16x4096x8x2x64, .f32⟩
  | 68 => ⟨S16x4096x8x2x64, .f32⟩
  | 69 => ⟨S16x4096x8x2x16, .f32⟩
  | 70 => ⟨S16x4096x8x2x8, .f32⟩
  | 71 => ⟨S16x4096x8x2x8, .f32⟩
  | 72 => ⟨S16x4096x8x2x8, .f32⟩
  | 73 => ⟨S16x4096x8x2x8, .f32⟩
  | 74 => ⟨S16x4096x8x2x8, .f32⟩
  | 75 => ⟨S16x4096x8x2x8, .f32⟩
  | 76 => ⟨S16x4096x8x2x8, .f32⟩
  | 77 => ⟨S16x4096x8x2x8, .f32⟩
  | 78 => ⟨S16x4096x8x2x8, .f32⟩
  | 79 => ⟨S16x4096x8x2x8, .f32⟩
  | 80 => ⟨S16x4096x8x2x8, .f32⟩
  | 81 => ⟨S16x4096x8x2x8, .f32⟩
  | 82 => ⟨S16x4096x8x2x16, .f32⟩
  | 83 => ⟨S16x4096x8x2x48, .f32⟩
  | 84 => ⟨S16x4096x8x2x64, .f32⟩
  | 85 => ⟨S_, .f32⟩
  | 86 => ⟨S16x4096x8x2x64, .f32⟩
  | 87 => ⟨S16x4096x8x2x64, .f32⟩
  | 88 => ⟨S64, .f32⟩
  | 89 => ⟨S16x4096x8x2x64, .f32⟩
  | 90 => ⟨S_, .f32⟩
  | 91 => ⟨S16x4096x8x2, .f32⟩
  | 92 => ⟨S16x4096x8x2x1, .f32⟩
  | 93 => ⟨S_, .f32⟩
  | 94 => ⟨S16x4096x8x2x1, .f32⟩
  | 95 => ⟨S16x4096x8x2x1, .f32⟩
  | 96 => ⟨S_, .f32⟩
  | 97 => ⟨S16x4096x8x2x1, .f32⟩
  | 98 => ⟨S16x4096x8x2x1, .f32⟩
  | 99 => ⟨S16x4096x8x2x1, .f32⟩
  | 100 => ⟨S16x4096x8x2x64, .f32⟩
  | 101 => ⟨S16x4096x8x2x64, .f32⟩
  | 102 => ⟨S1x1x1x1x64, .f32⟩
  | 103 => ⟨S16x4096x8x2x64, .f32⟩
  | 104 => ⟨S16x4096x8x2x64, .f32⟩
  | 105 => ⟨S16x4096x8x2x16, .f32⟩
  | 106 => ⟨S16x4096x8x2x8, .f32⟩
  | 107 => ⟨S16x4096x8x2x8, .f32⟩
  | 108 => ⟨S16x4096x8x2x8, .f32⟩
  | 109 => ⟨S16x4096x8x2x8, .f32⟩
  | 110 => ⟨S16x4096x8x2x8, .f32⟩
  | 111 => ⟨S16x4096x8x2x8, .f32⟩
  | 112 => ⟨S16x4096x8x2x8, .f32⟩
  | 113 => ⟨S16x4096x8x2x8, .f32⟩
  | 114 => ⟨S16x4096x8x2x8, .f32⟩
  | 115 => ⟨S16x4096x8x2x8, .f32⟩
  | 116 => ⟨S16x4096x8x2x8, .f32⟩
  | 117 => ⟨S16x4096x8x2x8, .f32⟩
  | 118 => ⟨S16x4096x8x2x16, .f32⟩
  | 119 => ⟨S16x4096x8x2x48, .f32⟩
  | 120 => ⟨S16x4096x8x2x64, .f32⟩
  | 121 => ⟨S65536x1024, .f32⟩
  | 122 => ⟨S65536x1024, .bf16⟩
  | 123 => ⟨S65536x1024, .f32⟩
  | 124 => ⟨S65536x1024, .bf16⟩
  | 125 => ⟨S65536x1024, .f32⟩
  | 126 => ⟨S65536x1024, .bf16⟩
  | 127 => ⟨S65536x1024, .f32⟩
  | _ => ⟨S16x4096x1024, .f32⟩

abbrev hbmTy0_1 (i : Nat) : BufTy := match i % 128 with
  | 0 => ⟨S65536x1024, .bf16⟩
  | 1 => ⟨S65536x1024, .f32⟩
  | 2 => ⟨S65536x1024, .bf16⟩
  | 3 => ⟨S65536x1024, .f32⟩
  | 4 => ⟨S65536x1024, .bf16⟩
  | 5 => ⟨S65536x1024, .f32⟩
  | 6 => ⟨S65536x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_7 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩

abbrev nD : Nat := 1
abbrev τ : Topo := Topo.v7x

variable {F : FTy → Type} [FloatOps F]
-- ==== MixOut.lean ====
abbrev S16x4096x1024 : Shape := ⟨3, ![16, 4096, 1024]⟩
abbrev S65536x1024 : Shape := ⟨2, ![65536, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 14
  | .vmem => 12
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S65536x1024, .bf16⟩
  | .hbm, ⟨3, _⟩ => ⟨S16x4096x1024, .bf16⟩
  | .hbm, ⟨4, _⟩ => ⟨S1x1024x1024, .f32⟩
  | .hbm, ⟨5, _⟩ => ⟨S1x1024x1024, .f32⟩
  | .hbm, ⟨6, _⟩ => ⟨S65536x1024, .f32⟩
  | .hbm, ⟨7, _⟩ => ⟨S65536x1024, .bf16⟩
  | .hbm, ⟨8, _⟩ => ⟨S65536x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutRefIdeal.lean ====
abbrev S16x4096x1024 : Shape := ⟨3, ![16, 4096, 1024]⟩
abbrev S65536x1024 : Shape := ⟨2, ![65536, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S65536x1024, .bf16⟩
  | .hbm, ⟨3, _⟩ => ⟨S16x4096x1024, .bf16⟩
  | .hbm, ⟨4, _⟩ => ⟨S1x1024x1024, .f32⟩
  | .hbm, ⟨5, _⟩ => ⟨S1x1024x1024, .f32⟩
  | .hbm, ⟨6, _⟩ => ⟨S16x4096x1024, .f32⟩
  | .hbm, ⟨7, _⟩ => ⟨S1024x1024, .f32⟩
  | .hbm, ⟨8, _⟩ => ⟨S16x4096x1024, .f32⟩
  | .hbm, ⟨9, _⟩ => ⟨S16x4096x1024, .f32⟩
  | .hbm, ⟨10, _⟩ => ⟨S65536x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S_, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S1024x1024, .f32⟩
  | .hbm, ⟨23, _⟩ => ⟨S16x4096x1024, .f32⟩
  | .hbm, ⟨24, _⟩ => ⟨S16x4096x1024, .f32⟩
  | .hbm, ⟨25, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MemKv.lean ====
abbrev S16x256x1024 : Shape := ⟨3, ![16, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S1024x1024 : Shape := ⟨2, ![1024, 1024]⟩
abbrev S128 : Shape := ⟨1, ![128]⟩
abbrev S16x256x512 : Shape := ⟨3, ![16, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x512 : Shape := ⟨2, ![256, 512]⟩

abbrev nBuf : Space → Nat
  | .hbm => 12
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S128, .f32⟩
  | .hbm, ⟨9, _⟩ => ⟨S1x128, .f32⟩
  | .hbm, ⟨10, _⟩ => ⟨S16x256x512, .bf16⟩
  | .hbm, ⟨11, _⟩ => ⟨S16x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S16x256x1024 : Shape := ⟨3, ![16, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x1024 : Shape := ⟨2, ![1024, 1024]⟩
abbrev S16x256x512 : Shape := ⟨3, ![16, 256, 512]⟩
abbrev S16x256x4x128 : Shape := ⟨4, ![16, 256, 4, 128]⟩
abbrev S128 : Shape := ⟨1, ![128]⟩
abbrev S16x256x4 : Shape := ⟨3, ![16, 256, 4]⟩
abbrev S16x256x4x1 : Shape := ⟨4, ![16, 256, 4, 1]⟩
abbrev S1x1x1x128 : Shape := ⟨4, ![1, 1, 1, 128]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S16x256x1024, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x1024, .f32⟩
  | .hbm, ⟨17, _⟩ => ⟨S16x256x1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S1024x1024, .f32⟩
  | .hbm, ⟨22, _⟩ => ⟨S16x256x1024, .f32⟩
  | .hbm, ⟨23, _⟩ => ⟨S16x256x512, .f32⟩
  | .hbm, ⟨24, _⟩ => ⟨S16x256x4x128, .f32⟩
  | .hbm, ⟨25, _⟩ => ⟨S128, .f32⟩
  | .hbm, ⟨26, _⟩ => ⟨S16x256x4x128, .f32⟩
  | .hbm, ⟨27, _⟩ => ⟨S_, .f32⟩
  | .hbm, ⟨28, _⟩ => ⟨S16x256x4, .f32⟩
  | .hbm, ⟨29, _⟩ => ⟨S16x256x4x1, .f32⟩
  | .hbm, ⟨30, _⟩ => ⟨S_, .f32⟩
  | .hbm, ⟨31, _⟩ => ⟨S16x256x4x1, .f32⟩
  | .hbm, ⟨32, _⟩ => ⟨S16x256x4x1, .f32⟩
  | .hbm, ⟨33, _⟩ => ⟨S_, .f32⟩
  | .hbm, ⟨34, _⟩ => ⟨S16x256x4x1, .f32⟩
  | .hbm, ⟨35, _⟩ => ⟨S16x256x4x1, .f32⟩
  | .hbm, ⟨36, _⟩ => ⟨S16x256x4x1, .f32⟩
  | .hbm, ⟨37, _⟩ => ⟨S16x256x4x128, .f32⟩
  | .hbm, ⟨38, _⟩ => ⟨S16x256x4x128, .f32⟩
  | .hbm, ⟨39, _⟩ => ⟨S1x1x1x128, .f32⟩
  | .hbm, ⟨40, _⟩ => ⟨S16x256x4x128, .f32⟩
  | .hbm, ⟨41, _⟩ => ⟨S16x256x4x128, .f32⟩
  | .hbm, ⟨42, _⟩ => ⟨S16x256x512, .f32⟩
  | .hbm, ⟨43, _⟩ => ⟨S16x256x512, .bf16⟩
  | .hbm, ⟨44, _⟩ => ⟨S16x256x512, .f32⟩
  | .hbm, ⟨45, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.AttnPoint.lean ====
/-
  The attention kernel, one grid point: what the loop over the key tiles leaves in the three scratch arrays
  (running maximum, running sum, running weighted sum) as an iterated pure step, and the block the point
  writes as a pure function of its input blocks.
-/
module

public import proofs.«01_k».proof.Proof.Gen.AttnIdeal.Value
public import Idealize.ShloMosaic.Lib.Pipeline.ValueKit
public import Idealize.ShloMosaic.Lib.Pointwise
public import Idealize.ShloMosaic.Lib.VecWindow

@[expose] public section

set_option maxRecDepth 16384

noncomputable section

namespace Cert.Proof.Attn

open Cert.AttnIdeal Cert.AttnIdeal.Gen Idealize.ShloMosaic Idealize.ShloMosaic.TcCoe Idealize.SL.Sem
open Idealize.ShloMosaic.Pipeline (Dat)

/-- The three scratch arrays: running maximum, running sum, running weighted sum. -/
abbrev St : Type := FVec Ideal S1024x128 .f32 × FVec Ideal S1024x128 .f32 × FVec Ideal S1024x128 .f32

/-- The scratch arrays before the first key tile. -/
def st0 : St := (k0_pay15, k0_pay16, k0_pay17)

/-- One unmasked key tile. -/
def stepS (q : FVec Ideal S1024x128 .bf16) (kb vb : Vec Ideal S1x512x128 .bf16) (s : St) : St :=
  (k0_pay18 (k0_pay3 q kb s.1), k0_pay6 q kb s.1 s.2.1, k0_pay7 q kb vb s.1 s.2.2)

/-- The key (or value) tile the loop reads at trip `k`. -/
def tileAt (i : grid0.Coords) (x : Vec Ideal S1x4096x128 .bf16) (k : Fin (k0_t1_loop i).trips) : Vec Ideal S1x512x128 .bf16 :=
  View.ld x (Rect.unit (s := S1x4096x128) (k0_off1 i k) S1x512x128.size (k0_off1_inb i k))

/-- The key (or value) tile on the diagonal. -/
def tileDiag (i : grid0.Coords) (x : Vec Ideal S1x4096x128 .bf16) : Vec Ideal S1x512x128 .bf16 :=
  View.ld x (Rect.unit (s := S1x4096x128) (k0_off3 i) S1x512x128.size (k0_off3_inb i))

/-- The scratch arrays before trip `k`. -/
def stAt (i : grid0.Coords) (x1 : Vec Ideal S1x512x128 .bf16) (x2 x3 : Vec Ideal S1x4096x128 .bf16) : ℕ → St
  | 0 => st0
  | k + 1 => if h : k < (k0_t1_loop i).trips then
      stepS (k0_pay14 x1) (tileAt i x2 ⟨k, h⟩) (tileAt i x3 ⟨k, h⟩) (stAt i x1 x2 x3 k) else stAt i x1 x2 x3 k

section Trip

variable (c : Dev nD) (i : grid0.Coords)
  (arg3 : Memref sig .tc .smem S1x1 .f32) (harg3 : arg3.IsWhole) (arg4 : Memref sig .tc .vmem S1x512x128 .bf16) (harg4 : arg4.IsWhole)
  (arg5 : Memref sig .tc .vmem S1x4096x128 .bf16) (harg5 : arg5.IsWhole) (arg6 : Memref sig .tc .vmem S1x4096x128 .bf16) (harg6 : arg6.IsWhole)
  (arg7 : Memref sig .tc .vmem S1x128 .f32) (harg7 : arg7.IsWhole) (arg8 : Memref sig .tc .vmem S1x512x128 .bf16) (harg8 : arg8.IsWhole)
  (arg9 : Memref sig .tc .vmem S1024x128 .f32) (harg9 : arg9.IsWhole) (arg10 : Memref sig .tc .vmem S1024x128 .f32) (harg10 : arg10.IsWhole)
  (arg11 : Memref sig .tc .vmem S1024x128 .f32) (harg11 : arg11.IsWhole)
  (x1 : Vec Ideal S1x512x128 .bf16) (x2 : Vec Ideal S1x4096x128 .bf16) (x3 : Vec Ideal S1x4096x128 .bf16)
  (f9 : BufTy.Contents (Elt Ideal) arg9.view.ty) (f10 : BufTy.Contents (Elt Ideal) arg10.view.ty) (f11 : BufTy.Contents (Elt Ideal) arg11.view.ty)

/-- The whole of a scratch array as a rectangle. -/
abbrev whole : Rect S1024x128 := Rect.unit (s := S1024x128) ![0, 0] S1024x128.size inb_S1024x128_S1024x128_0_0

/-- A trip stores each scratch array whole, at the pure step of what it found there. -/
theorem trip_eq (k : Fin (k0_t1_loop i).trips) :
    tripL_k0_t1 (F := Ideal) Variants.none c none i arg3 harg3 arg4 harg4 arg5 harg5 arg6 harg6 arg7 harg7 arg8 harg8 arg9 harg9 arg10 harg10 arg11 harg11 x1 (harg5.unread x2) (harg6.unread x3) k f9 f10 f11
      = ([⟨whole, k0_pay18 (k0_pay3 (k0_pay14 x1) (View.readAt (Elt Ideal) arg5.view (Rect.unit (s := S1x4096x128) (k0_off1 i k) S1x512x128.size (k0_off1_inb i k)).toLoadRect (harg5.unread x2)) (View.readAt (Elt Ideal) arg9.view whole.toLoadRect f9))⟩],
         [⟨whole, k0_pay6 (k0_pay14 x1) (View.readAt (Elt Ideal) arg5.view (Rect.unit (s := S1x4096x128) (k0_off1 i k) S1x512x128.size (k0_off1_inb i k)).toLoadRect (harg5.unread x2)) (View.readAt (Elt Ideal) arg9.view whole.toLoadRect f9) (View.readAt (Elt Ideal) arg10.view whole.toLoadRect f10)⟩],
         [⟨whole, k0_pay7 (k0_pay14 x1) (View.readAt (Elt Ideal) arg5.view (Rect.unit (s := S1x4096x128) (k0_off1 i k) S1x512x128.size (k0_off1_inb i k)).toLoadRect (harg5.unread x2)) (View.readAt (Elt Ideal) arg6.view (Rect.unit (s := S1x4096x128) (k0_off1 i k) S1x512x128.size (k0_off1_inb i k)).toLoadRect (harg6.unread x3)) (View.readAt (Elt Ideal) arg9.view whole.toLoadRect f9) (View.readAt (Elt Ideal) arg11.view whole.toLoadRect f11)⟩]) := by
  unfold tripL_k0_t1
  unfold trip_k0_t1
  dsimp only
  rfl

/-- Reading the scratch arrays back after a trip gives the pure step. -/
theorem trip_read (k : Fin (k0_t1_loop i).trips) (s : St) (h9 : arg9.view.read (Elt Ideal) f9 = s.1)
    (h10 : arg10.view.read (Elt Ideal) f10 = s.2.1) (h11 : arg11.view.read (Elt Ideal) f11 = s.2.2) :
    let L := tripL_k0_t1 (F := Ideal) Variants.none c none i arg3 harg3 arg4 harg4 arg5 harg5 arg6 harg6 arg7 harg7 arg8 harg8 arg9 harg9 arg10 harg10 arg11 harg11 x1 (harg5.unread x2) (harg6.unread x3) k f9 f10 f11
    (∀ g, arg9.view.read (Elt Ideal) (arg9.view.writes (Elt Ideal) g L.1) = (stepS (k0_pay14 x1) (tileAt i x2 k) (tileAt i x3 k) s).1)
    ∧ (∀ g, arg10.view.read (Elt Ideal) (arg10.view.writes (Elt Ideal) g L.2.1) = (stepS (k0_pay14 x1) (tileAt i x2 k) (tileAt i x3 k) s).2.1)
    ∧ (∀ g, arg11.view.read (Elt Ideal) (arg11.view.writes (Elt Ideal) g L.2.2) = (stepS (k0_pay14 x1) (tileAt i x2 k) (tileAt i x3 k) s).2.2) := by
  intro L
  have e : L = _ := trip_eq c i arg3 harg3 arg4 harg4 arg5 harg5 arg6 harg6 arg7 harg7 arg8 harg8 arg9 harg9 arg10 harg10 arg11 harg11 x1 x2 x3 f9 f10 f11 k
  rw [e]
  have r5 : View.readAt (Elt Ideal) arg5.view (Rect.unit (s := S1x4096x128) (k0_off1 i k) S1x512x128.size (k0_off1_inb i k)).toLoadRect (harg5.unread x2) = tileAt i x2 k := by
    rw [View.readAt_eq_ld, Memref.IsWhole.read_unread]; rfl
  have r6 : View.readAt (Elt Ideal) arg6.view (Rect.unit (s := S1x4096x128) (k0_off1 i k) S1x512x128.size (k0_off1_inb i k)).toLoadRect (harg6.unread x3) = tileAt i x3 k := by
    rw [View.readAt_eq_ld, Memref.IsWhole.read_unread]; rfl
  have r9 : View.readAt (Elt Ideal) arg9.view whole.toLoadRect f9 = s.1 := (View.readAt_full _ _ _).trans h9
  have r10 : View.readAt (Elt Ideal) arg10.view whole.toLoadRect f10 = s.2.1 := (View.readAt_full _ _ _).trans h10
  have r11 : View.readAt (Elt Ideal) arg11.view whole.toLoadRect f11 = s.2.2 := (View.readAt_full _ _ _).trans h11
  rw [r5, r6, r9, r10, r11]
  exact ⟨fun g => View.read_writes_full _ _ _ _ _, fun g => View.read_writes_full _ _ _ _ _, fun g => View.read_writes_full _ _ _ _ _⟩

/-- After `k` trips the scratch arrays hold the iterated pure step. -/
theorem loop_read (h9 : arg9.view.read (Elt Ideal) f9 = st0.1)
    (h10 : arg10.view.read (Elt Ideal) f10 = st0.2.1) (h11 : arg11.view.read (Elt Ideal) f11 = st0.2.2) (k : ℕ) (hk : k ≤ (k0_t1_loop i).trips) :
    let L := pb_k0_t1 (F := Ideal) Variants.none c none i arg3 harg3 arg4 harg4 arg5 harg5 arg6 harg6 arg7 harg7 arg8 harg8 arg9 harg9 arg10 harg10 arg11 harg11 x1 (harg5.unread x2) (harg6.unread x3) f9 f10 f11 k
    arg9.view.read (Elt Ideal) (arg9.view.writes (Elt Ideal) f9 L.1) = (stAt i x1 x2 x3 k).1
    ∧ arg10.view.read (Elt Ideal) (arg10.view.writes (Elt Ideal) f10 L.2.1) = (stAt i x1 x2 x3 k).2.1
    ∧ arg11.view.read (Elt Ideal) (arg11.view.writes (Elt Ideal) f11 L.2.2) = (stAt i x1 x2 x3 k).2.2 := by
  induction k with
  | zero => exact ⟨h9, h10, h11⟩
  | succ k ih =>
    have hk' : k < (k0_t1_loop i).trips := hk
    obtain ⟨i9, i10, i11⟩ := ih hk'.le
    have hs := pb_k0_t1_succ (F := Ideal) Variants.none c none i arg3 harg3 arg4 harg4 arg5 harg5 arg6 harg6 arg7 harg7 arg8 harg8 arg9 harg9 arg10 harg10 arg11 harg11 x1 (harg5.unread x2) (harg6.unread x3) f9 f10 f11 ⟨k, hk'⟩
    obtain ⟨t9, t10, t11⟩ := trip_read c i arg3 harg3 arg4 harg4 arg5 harg5 arg6 harg6 arg7 harg7 arg8 harg8 arg9 harg9 arg10 harg10 arg11 harg11 x1 x2 x3 _ _ _ ⟨k, hk'⟩ _ i9 i10 i11
    have est : stAt i x1 x2 x3 (k + 1) = stepS (k0_pay14 x1) (tileAt i x2 ⟨k, hk'⟩) (tileAt i x3 ⟨k, hk'⟩) (stAt i x1 x2 x3 k) := dif_pos hk'
    intro L
    have eL : L = _ := hs
    rw [eL, est]
    dsimp only
    rw [View.writes_append, View.writes_append, View.writes_append]
    exact ⟨t9 _, t10 _, t11 _⟩

end Trip

/-- The row and column numbers of the diagonal tile, and what the kernel computes of them. -/
abbrev rowI : IVec S1024x512 32 := iota .tc S1024x512 32 [0] iota_S1024x512_d0_w32
abbrev colI : IVec S1024x512 32 := iota .tc S1024x512 32 [1] iota_S1024x512_d1_w32

/-- The masked scores of the diagonal tile. -/
abbrev maskedS (q : FVec Ideal S1024x128 .bf16) (kb : Vec Ideal S1x512x128 .bf16) : FVec Ideal S1024x512 .f32 :=
  k0_pay26 q (k0_pay21 rowI k0_pay20) (k0_pay22 colI) 64#32 (k0_pay23 rowI k0_pay20) (k0_pay24 rowI k0_pay20) kb

/-- The running sum after the diagonal tile. -/
def lastL (q : FVec Ideal S1024x128 .bf16) (kb : Vec Ideal S1x512x128 .bf16) (s : St) : FVec Ideal S1024x128 .f32 :=
  k0_pay30 q (k0_pay21 rowI k0_pay20) (k0_pay22 colI) 64#32 (k0_pay23 rowI k0_pay20) (k0_pay24 rowI k0_pay20) kb s.1 s.2.1

/-- The running weighted sum after the diagonal tile. -/
def lastA (q : FVec Ideal S1024x128 .bf16) (kb vb : Vec Ideal S1x512x128 .bf16) (s : St) : FVec Ideal S1024x128 .f32 :=
  k0_pay33 (k0_pay25 vb)
    (k0_pay31 q (k0_pay21 rowI k0_pay20) (k0_pay22 colI) 64#32 (k0_pay23 rowI k0_pay20) (k0_pay24 rowI k0_pay20) kb s.1 s.2.2)
    (k0_pay32 q (k0_pay21 rowI k0_pay20) (k0_pay22 colI) 64#32 (k0_pay23 rowI k0_pay20) (k0_pay24 rowI k0_pay20) kb s.1)
    (constant S1024x128 .f32 0x00000000#32)

/-- The block a point writes, from its input blocks. -/
def outB (i : grid0.Coords) (x0 : Vec Ideal S1x1 .f32) (x1 : Vec Ideal S1x512x128 .bf16) (x2 x3 : Vec Ideal S1x4096x128 .bf16)
    (x4 : Vec Ideal S1x128 .f32) : FVec Ideal S1x512x128 .bf16 :=
  k0_pay1 (k0_pay35
    (lastA (k0_pay14 x1) (tileDiag i x2) (tileDiag i x3) (stAt i x1 x2 x3 (k0_t1_loop i).trips))
    (lastL (k0_pay14 x1) (tileDiag i x2) (stAt i x1 x2 x3 (k0_t1_loop i).trips))
    (x0 (ix2 0 0)) x4)

/-- The remainder loop after the main one has no trips. -/
theorem trips2 (i : grid0.Coords) : (k0_t2_loop i).trips = 0 := by
  have h : ∀ j : Fin 8, Scf.trips (Scalar.addi (0#32) (Scalar.muli (Scalar.divsi (Scalar.subi (BitVec.ofNat 32 j.val) 0#32) 1#32) 1#32))
      (Scalar.addi (0#32) (Scalar.subi (BitVec.ofNat 32 j.val) 0#32)) 1#32 = 0 := by decide +kernel
  exact h (i 2)

/-- The main loop has as many trips as there are tiles before the diagonal. -/
theorem trips1 (i : grid0.Coords) : (k0_t1_loop i).trips = (i 2).val := by
  have h : ∀ j : Fin 8, Scf.trips (0#32) (Scalar.addi (0#32) (Scalar.muli (Scalar.divsi (Scalar.subi (BitVec.ofNat 32 j.val) 0#32) 1#32) 1#32)) 1#32
      = j.val := by decide +kernel
  exact h (i 2)

variable (m : (ℓ : Loc nD τ sig) → Buf (Elt Ideal) ℓ)

/-- A scratch array stored whole reads back as what was stored. -/
theorem read_whole {sp : Space} (M : Memref sig .tc sp S1024x128 .f32) (g : BufTy.Contents (Elt Ideal) M.view.ty) (p : FVec Ideal S1024x128 .f32)
    (L : List (View.Piece (Elt Ideal) S1024x128 .f32)) :
    M.view.read (Elt Ideal) (M.view.writes (Elt Ideal) g (⟨whole, p⟩ :: L)) = p :=
  View.read_writes_full _ _ _ _ _

/-- What the body leaves in the output's block at a point. -/
theorem outs_eq (c : Dev nD) (t : Fin cfg0.N) :
    outsAt0 m c t = outB (grid0.coords t) (iblk m c 0 t) (iblk m c 1 t) (iblk m c 2 t) (iblk m c 3 t) (iblk m c 4 t) := by
  unfold outsAt0
  frame_out
  have e2 : Scf.trips (Scalar.addi (0#32) (Scalar.muli (Scalar.divsi (Scalar.subi (BitVec.ofNat 32 ((grid0.coords t) 2).val) 0#32) 1#32) 1#32))
      (Scalar.addi (0#32) (Scalar.subi (BitVec.ofNat 32 ((grid0.coords t) 2).val) 0#32)) 1#32 = 0 := trips2 (grid0.coords t)
  obtain ⟨r9, r10, r11⟩ := loop_read c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (iblk m c 1 t) (iblk m c 2 t) (iblk m c 3 t)
    (scM0_0.view.writes (Elt Ideal) scM0_0.view.junk [⟨whole, k0_pay15 (F := Ideal)⟩])
    (scM0_1.view.writes (Elt Ideal) scM0_1.view.junk [⟨whole, k0_pay16 (F := Ideal)⟩])
    (scM0_2.view.writes (Elt Ideal) scM0_2.view.junk [⟨whole, k0_pay17 (F := Ideal)⟩])
    (read_whole scM0_0 _ _ _) (read_whole scM0_1 _ _ _) (read_whole scM0_2 _ _ _) _ le_rfl
  simp only [e2, pb_k0_t2.eq_1, List.nil_append, View.writes_append]
  generalize pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 1 t) ((hs0_2 t).unread (iblk m c 2 t)) ((hs0_3 t).unread (iblk m c 3 t)) _ _ _ _ = L at r9 r10 r11 ⊢
  have c9 : (View.whole cc0_scratch0).readCov (L.1 ++ [⟨whole, k0_pay15 (F := Ideal)⟩]) whole.toLoadRect
      = (stAt (grid0.coords t) (iblk m c 1 t) (iblk m c 2 t) (iblk m c 3 t) (k0_t1_loop (grid0.coords t)).trips).1 := by
    refine Eq.trans (View.readAt_full (View.whole cc0_scratch0) _ _) ?_
    rw [View.writes_append]; exact r9
  have c10 : (View.whole cc0_scratch1).readCov (L.2.1 ++ [⟨whole, k0_pay16 (F := Ideal)⟩]) whole.toLoadRect
      = (stAt (grid0.coords t) (iblk m c 1 t) (iblk m c 2 t) (iblk m c 3 t) (k0_t1_loop (grid0.coords t)).trips).2.1 := by
    refine Eq.trans (View.readAt_full (View.whole cc0_scratch1) _ _) ?_
    rw [View.writes_append]; exact r10
  have c11 : (View.whole cc0_scratch2).readCov (L.2.2 ++ [⟨whole, k0_pay17 (F := Ideal)⟩]) whole.toLoadRect
      = (stAt (grid0.coords t) (iblk m c 1 t) (iblk m c 2 t) (iblk m c 3 t) (k0_t1_loop (grid0.coords t)).trips).2.2 := by
    refine Eq.trans (View.readAt_full (View.whole cc0_scratch2) _ _) ?_
    rw [View.writes_append]; exact r11
  have c0 : ∀ h, View.ld (iblk m c 0 t) (Rect.unit (s := S1x1) ![0, 0] S1x1.size inb_S1x1_S1x1_0_0) (Shape.Idx.first h) = iblk m c 0 t (ix2 0 0) :=
    fun h => congrArg (iblk m c 0 t) (funext fun a => by fin_cases a <;> rfl)
  rw [c9, c10, c11, c0]
  rfl

end Cert.Proof.Attn

end
-- ==== Proof.AttnMath.lean ====
/-
  One row of the online softmax over the extended reals: the running maximum, sum and weighted sum against the
  plain sums of exponentials, and the plain softmax as the same quotient. A row whose maximum is an infinity has all
  its weights zero, and zero over zero for its quotients.
-/
module

public import Idealize.ShloMosaic.PureOps.Ideal.Laws

@[expose] public section

noncomputable section

namespace Cert.Proof.Attn

open Idealize.ShloMosaic

/-- A masked score: the score where the mask lets it pass, −∞ elsewhere. -/
def scr (a : Prop) [Decidable a] (x : EReal) : EReal := if a then x else ⊥

/-- The weight of a masked score that is not +∞. -/
def wgt (a : Prop) [Decidable a] (x : EReal) : ℝ := if a then (Ideal.exp x).toReal else 0

theorem exp_coe (x : ℝ) : Ideal.exp (x : EReal) = (Real.exp x : ℝ) := rfl

theorem exp_bot : Ideal.exp ⊥ = (0 : EReal) := rfl

theorem toReal_exp_nonneg (x : EReal) : 0 ≤ (Ideal.exp x).toReal := by
  induction x using EReal.rec with
  | bot => rw [exp_bot, EReal.toReal_zero]
  | top => exact EReal.toReal_top.ge
  | coe r => rw [exp_coe, EReal.toReal_coe]; exact (Real.exp_pos r).le

theorem wgt_nonneg (a : Prop) [Decidable a] (x : EReal) : 0 ≤ wgt a x := by
  unfold wgt; split
  · exact toReal_exp_nonneg x
  · exact le_rfl

theorem wgt_of_bot (a : Prop) [Decidable a] (x : EReal) (h : scr a x = ⊥) : wgt a x = 0 := by
  unfold scr at h; unfold wgt
  split
  · rename_i ha; rw [if_pos ha] at h; rw [h, exp_bot, EReal.toReal_zero]
  · rfl

theorem wgt_pos (a : Prop) [Decidable a] (x : EReal) (h : scr a x ≠ ⊥) (h' : scr a x ≠ ⊤) : 0 < wgt a x := by
  unfold scr at h h'; unfold wgt
  split
  · rename_i ha
    rw [if_pos ha] at h h'
    induction x using EReal.rec with
    | bot => exact absurd rfl h
    | top => exact absurd rfl h'
    | coe r => rw [exp_coe, EReal.toReal_coe]; exact Real.exp_pos r
  · rename_i ha; rw [if_neg ha] at h; exact absurd rfl h

theorem exp_scr_sub (a : Prop) [Decidable a] (x : EReal) (h : scr a x ≠ ⊤) (μ : ℝ) :
    Ideal.exp (scr a x - (μ : EReal)) = ((wgt a x * Real.exp (-μ) : ℝ) : EReal) := by
  unfold scr at h ⊢; unfold wgt
  split
  · rename_i ha
    rw [if_pos ha] at h
    induction x using EReal.rec with
    | bot => rw [EReal.bot_sub, exp_bot, EReal.toReal_zero, zero_mul]; rfl
    | top => exact absurd rfl h
    | coe r => rw [← EReal.coe_sub, exp_coe, exp_coe, EReal.toReal_coe, ← Real.exp_add, sub_eq_add_neg]
  · rw [EReal.bot_sub, zero_mul]; rfl

/-- Below a maximum of +∞ every weight is zero. -/
theorem exp_sub_top (x : EReal) : Ideal.exp (x - ⊤) = 0 := by
  rw [sub_eq_add_neg, EReal.neg_top, EReal.add_bot]; rfl

theorem coe_sum {ι : Type} (s : Finset ι) (f : ι → ℝ) : (((∑ i ∈ s, f i : ℝ)) : EReal) = ∑ i ∈ s, (f i : EReal) :=
  map_sum (⟨⟨((↑) : ℝ → EReal), EReal.coe_zero⟩, EReal.coe_add⟩ : ℝ →+ EReal) f s

/-- The largest of the scores. -/
abbrev tops {ι : Type} (s : Finset ι) (f : ι → EReal) : EReal := Finset.fold max ⊥ f s

theorem tops_le {ι : Type} (s : Finset ι) (f : ι → EReal) (c : EReal) : tops s f ≤ c ↔ ∀ i ∈ s, f i ≤ c := by
  rw [Finset.fold_max_le]
  exact ⟨fun h => h.2, fun h => ⟨bot_le, h⟩⟩

theorem le_tops {ι : Type} (s : Finset ι) (f : ι → EReal) (i : ι) (hi : i ∈ s) : f i ≤ tops s f := (tops_le s f _).1 le_rfl i hi

/-- Scores that are not all −∞, with none +∞, have a positive sum of weights. -/
theorem wgt_sum_pos {ι : Type} [Fintype ι] (a : ι → Prop) [∀ i, Decidable (a i)] (x : ι → EReal)
    (h : tops Finset.univ (fun i => scr (a i) (x i)) ≠ ⊥) (h' : ∀ i, scr (a i) (x i) ≠ ⊤) : 0 < ∑ i, wgt (a i) (x i) := by
  obtain ⟨i, hi⟩ : ∃ i, scr (a i) (x i) ≠ ⊥ := by
    by_contra hn
    push Not at hn
    exact h (le_bot_iff.1 ((tops_le _ _ _).2 fun i _ => (hn i).le))
  exact Finset.sum_pos' (fun j _ => wgt_nonneg _ _) ⟨i, Finset.mem_univ _, wgt_pos _ _ hi (h' i)⟩

/-- What the running maximum `M`, sum `L` and weighted sum `A` hold of the plain sums `E` and `V`. -/
def Inv (E V : ℝ) (M L A : EReal) : Prop :=
  (E = 0 ∧ V = 0 ∧ M = ⊥ ∧ L = 0 ∧ A = 0)
  ∨ (∃ μ : ℝ, M = (μ : EReal) ∧ 0 < E ∧ L = ((E * Real.exp (-μ) : ℝ) : EReal) ∧ A = ((V * Real.exp (-μ) : ℝ) : EReal))
  ∨ (M = ⊤ ∧ L = 0 ∧ A = 0)

/-- One tile of the online softmax adds the tile's weights to the plain sums. -/
theorem Inv.step {ι : Type} [Fintype ι] {E V : ℝ} {M L A : EReal} (h : Inv E V M L A) (a : ι → Prop) [∀ i, Decidable (a i)]
    (x : ι → EReal) (v : ι → ℝ) (M' : EReal) (hM' : M' = max M (tops Finset.univ (fun i => scr (a i) (x i)))) :
    Inv (E + ∑ i, wgt (a i) (x i)) (V + ∑ i, wgt (a i) (x i) * v i) M'
      (Ideal.exp (M - M') * L + ∑ i, Ideal.exp (scr (a i) (x i) - M'))
      (Ideal.exp (M - M') * A + ∑ i, Ideal.exp (scr (a i) (x i) - M') * (v i : EReal)) := by
  have hle : ∀ i, scr (a i) (x i) ≤ M' := fun i => hM' ▸ le_max_of_le_right (le_tops _ (fun i => scr (a i) (x i)) i (Finset.mem_univ i))
  have hMM : M ≤ M' := hM' ▸ le_max_left _ _
  induction M' using EReal.rec with
  | bot =>
    have hs : ∀ i, scr (a i) (x i) = ⊥ := fun i => le_bot_iff.1 (hle i)
    have hw : ∀ i, wgt (a i) (x i) = 0 := fun i => wgt_of_bot _ _ (hs i)
    have hM : M = ⊥ := le_bot_iff.1 hMM
    left
    simp only [hs, hw, EReal.bot_sub, exp_bot, zero_mul, Finset.sum_const_zero, add_zero]
    rcases h with ⟨e, v0, _, l0, a0⟩ | ⟨μ, e, _⟩ | ⟨e, _⟩
    · exact ⟨e, v0, trivial, by rw [l0, mul_zero], by rw [a0, mul_zero]⟩
    · rw [hM] at e; exact absurd e.symm (EReal.coe_ne_bot μ)
    · rw [hM] at e; exact absurd e bot_ne_top
  | top =>
    right; right
    simp only [exp_sub_top, zero_mul, Finset.sum_const_zero, add_zero, and_self]
  | coe μ' =>
    have hs : ∀ i, scr (a i) (x i) ≠ ⊤ := fun i e => by have := hle i; rw [e] at this; exact (EReal.coe_lt_top μ').not_ge this
    have e1 : (∑ i, Ideal.exp (scr (a i) (x i) - (μ' : EReal))) = (((∑ i, wgt (a i) (x i)) * Real.exp (-μ') : ℝ) : EReal) := by
      rw [Finset.sum_mul, coe_sum]
      exact Finset.sum_congr rfl fun i _ => exp_scr_sub _ _ (hs i) _
    have e2 : (∑ i, Ideal.exp (scr (a i) (x i) - (μ' : EReal)) * (v i : EReal)) = (((∑ i, wgt (a i) (x i) * v i) * Real.exp (-μ') : ℝ) : EReal) := by
      rw [Finset.sum_mul, coe_sum]
      refine Finset.sum_congr rfl fun i _ => ?_
      rw [exp_scr_sub _ _ (hs i), ← EReal.coe_mul]
      congr 1; ring
    rw [e1, e2]
    right; left
    refine ⟨μ', rfl, ?_⟩
    rcases h with ⟨rfl, rfl, rfl, rfl, rfl⟩ | ⟨μ, rfl, hE, rfl, rfl⟩ | ⟨rfl, _⟩
    · have hn : tops Finset.univ (fun i => scr (a i) (x i)) ≠ ⊥ := fun e => by
        rw [e, max_self] at hM'; exact EReal.coe_ne_bot μ' hM'
      simp only [mul_zero, zero_add, and_self, and_true]
      exact wgt_sum_pos a x hn hs
    · rw [← EReal.coe_sub, exp_coe, ← EReal.coe_mul, ← EReal.coe_mul, ← EReal.coe_add, ← EReal.coe_add]
      have : Real.exp (μ - μ') = Real.exp μ * Real.exp (-μ') := by rw [← Real.exp_add, sub_eq_add_neg]
      have h2 : Real.exp μ * Real.exp (-μ) = 1 := by rw [← Real.exp_add, add_neg_cancel, Real.exp_zero]
      refine ⟨add_pos_of_pos_of_nonneg hE (Finset.sum_nonneg fun i _ => wgt_nonneg _ _), ?_⟩
      constructor <;> congr 1 <;> rw [this]
      · linear_combination (E * Real.exp (-μ')) * h2
      · linear_combination (V * Real.exp (-μ')) * h2
    · exact absurd hMM (EReal.coe_lt_top μ').not_ge

theorem div_coe_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem div_zero_zero : Ideal.div 0 0 = ⊥ := by
  unfold Ideal.div
  rw [if_pos rfl, if_neg (lt_irrefl _)]

/-- A quotient of a row with the maximum `M`. -/
def quot (M : EReal) (V E : ℝ) : EReal := if M = ⊤ ∨ M = ⊥ then ⊥ else ((V / E : ℝ) : EReal)

theorem quot_top (V E : ℝ) : quot ⊤ V E = ⊥ := if_pos (Or.inl rfl)
theorem quot_bot (V E : ℝ) : quot ⊥ V E = ⊥ := if_pos (Or.inr rfl)
theorem quot_coe (μ V E : ℝ) : quot (μ : EReal) V E = ((V / E : ℝ) : EReal) :=
  if_neg fun h => h.elim (EReal.coe_ne_top μ) (EReal.coe_ne_bot μ)

/-- The quotient of the weighted sum by the sum is the plain quotient. -/
theorem Inv.div {E V : ℝ} {M L A : EReal} (h : Inv E V M L A) : Ideal.div A L = quot M V E := by
  rcases h with ⟨_, _, rfl, rfl, rfl⟩ | ⟨μ, rfl, hE, rfl, rfl⟩ | ⟨rfl, rfl, rfl⟩
  · rw [quot_bot, div_zero_zero]
  · have hp := Real.exp_pos (-μ)
    rw [quot_coe, div_coe_coe _ _ (mul_pos hE hp).ne', mul_div_mul_right _ _ hp.ne']
  · rw [quot_top, div_zero_zero]

/-- The plain softmax of a masked row. -/
theorem softmax_row {ι : Type} [Fintype ι] (a : ι → Prop) [∀ i, Decidable (a i)] (x : ι → EReal) (M : EReal)
    (hM : M = tops Finset.univ (fun i => scr (a i) (x i))) (j : ι) :
    Ideal.div (Ideal.exp (scr (a j) (x j) - M)) (∑ k, Ideal.exp (scr (a k) (x k) - M)) = quot M (wgt (a j) (x j)) (∑ k, wgt (a k) (x k)) := by
  have hle : ∀ i, scr (a i) (x i) ≤ M := fun i => hM ▸ le_tops _ (fun i => scr (a i) (x i)) i (Finset.mem_univ i)
  induction M using EReal.rec with
  | bot =>
    have hs : ∀ i, scr (a i) (x i) = ⊥ := fun i => le_bot_iff.1 (hle i)
    simp only [hs, EReal.bot_sub, exp_bot, Finset.sum_const_zero, div_zero_zero, quot_bot]
  | top => simp only [exp_sub_top, Finset.sum_const_zero, div_zero_zero, quot_top]
  | coe μ =>
    have hs : ∀ i, scr (a i) (x i) ≠ ⊤ := fun i e => by have := hle i; rw [e] at this; exact (EReal.coe_lt_top μ).not_ge this
    have hn : tops Finset.univ (fun i => scr (a i) (x i)) ≠ ⊥ := hM ▸ EReal.coe_ne_bot μ
    have e1 : (∑ i, Ideal.exp (scr (a i) (x i) - (μ : EReal))) = (((∑ i, wgt (a i) (x i)) * Real.exp (-μ) : ℝ) : EReal) := by
      rw [Finset.sum_mul, coe_sum]
      exact Finset.sum_congr rfl fun i _ => exp_scr_sub _ _ (hs i) _
    have hp := Real.exp_pos (-μ)
    rw [e1, exp_scr_sub _ _ (hs j), quot_coe, div_coe_coe _ _ (mul_pos (wgt_sum_pos a x hn hs) hp).ne', mul_div_mul_right _ _ hp.ne']

/-- The difference of two softmaxes against the values is the difference of the two quotients. -/
theorem diff_row {ι : Type} [Fintype ι] (w0 w1 v : ι → ℝ) (E0 E1 lam : ℝ) :
    (∑ j, (v j : EReal) * (((w0 j / E0 : ℝ) : EReal) - (lam : EReal) * ((w1 j / E1 : ℝ) : EReal)))
      = (((∑ j, w0 j * v j) / E0 : ℝ) : EReal) - (lam : EReal) * (((∑ j, w1 j * v j) / E1 : ℝ) : EReal) := by
  have : ∀ j, (v j : EReal) * (((w0 j / E0 : ℝ) : EReal) - (lam : EReal) * ((w1 j / E1 : ℝ) : EReal))
      = ((w0 j * v j / E0 - lam * (w1 j * v j / E1) : ℝ) : EReal) := fun j => by
    rw [← EReal.coe_mul, ← EReal.coe_sub, ← EReal.coe_mul]
    congr 1; ring
  simp only [this]
  rw [← coe_sum, ← EReal.coe_mul, ← EReal.coe_sub, Finset.sum_sub_distrib, ← Finset.mul_sum, Finset.sum_div, Finset.sum_div]

/-- A difference of two quotients is a real number, or the same infinity for every pair of weighted sums. -/
theorem quot_cases (M0 M1 : EReal) (lam E0 E1 : ℝ) :
    (∃ l1 : ℝ, ∀ V0 V1 : ℝ, quot M0 V0 E0 - (lam : EReal) * quot M1 V1 E1 = ((V0 / E0 : ℝ) : EReal) - (l1 : EReal) * ((V1 / E1 : ℝ) : EReal))
    ∨ ∃ C : EReal, (C = ⊤ ∨ C = ⊥) ∧ ∀ V0 V1 : ℝ, quot M0 V0 E0 - (lam : EReal) * quot M1 V1 E1 = C := by
  have h0 : ∀ z : EReal, (⊥ : EReal) - z = ⊥ := fun z => EReal.bot_sub z
  have main : ∀ Q1 : EReal, (Q1 = ⊥) → (∀ μ : ℝ, (∃ l1 : ℝ, ∀ V0 V1 : ℝ, quot (μ : EReal) V0 E0 - (lam : EReal) * Q1 = ((V0 / E0 : ℝ) : EReal) - (l1 : EReal) * ((V1 / E1 : ℝ) : EReal))
      ∨ ∃ C : EReal, (C = ⊤ ∨ C = ⊥) ∧ ∀ V0 V1 : ℝ, quot (μ : EReal) V0 E0 - (lam : EReal) * Q1 = C) := by
    rintro _ rfl μ
    rcases lt_trichotomy lam 0 with hl | rfl | hl
    · right
      refine ⟨⊥, Or.inr rfl, fun V0 _ => ?_⟩
      rw [EReal.coe_mul_bot_of_neg hl, sub_eq_add_neg, EReal.neg_top, EReal.add_bot]
    · left
      refine ⟨0, fun V0 V1 => ?_⟩
      rw [quot_coe, EReal.coe_zero, zero_mul, zero_mul]
    · right
      refine ⟨⊤, Or.inl rfl, fun V0 _ => ?_⟩
      rw [quot_coe, EReal.coe_mul_bot_of_pos hl, sub_eq_add_neg, EReal.neg_bot, EReal.coe_add_top]
  induction M0 using EReal.rec with
  | bot => exact Or.inr ⟨⊥, Or.inr rfl, fun V0 V1 => by rw [quot_bot, h0]⟩
  | top => exact Or.inr ⟨⊥, Or.inr rfl, fun V0 V1 => by rw [quot_top, h0]⟩
  | coe μ =>
    induction M1 using EReal.rec with
    | bot => simp only [quot_bot]; exact main ⊥ rfl μ
    | top => simp only [quot_top]; exact main ⊥ rfl μ
    | coe μ1 => exact Or.inl ⟨lam, fun V0 V1 => by rw [quot_coe, quot_coe]⟩

/-- Zero or an infinity. -/
def Inf (x : EReal) : Prop := x = 0 ∨ x = ⊤ ∨ x = ⊥

theorem Inf.add {x y : EReal} (hx : Inf x) (hy : Inf y) : Inf (x + y) := by
  rcases hx with rfl | rfl | rfl <;> rcases hy with rfl | rfl | rfl <;> simp [Inf]

theorem inf_sum {ι : Type} (s : Finset ι) (f : ι → EReal) (h : ∀ i, Inf (f i)) : Inf (∑ i ∈ s, f i) := by
  classical
  induction s using Finset.induction_on with
  | empty => exact Or.inl Finset.sum_empty
  | insert i s hi ih => rw [Finset.sum_insert hi]; exact (h i).add ih

theorem inf_mul (v : ℝ) {C : EReal} (hC : C = ⊤ ∨ C = ⊥) : Inf ((v : EReal) * C) := by
  rcases lt_trichotomy v 0 with hv | rfl | hv
  · rcases hC with rfl | rfl
    · rw [EReal.coe_mul_top_of_neg hv]; exact Or.inr (Or.inr rfl)
    · rw [EReal.coe_mul_bot_of_neg hv]; exact Or.inr (Or.inl rfl)
  · rw [EReal.coe_zero, zero_mul]; exact Or.inl rfl
  · rcases hC with rfl | rfl
    · rw [EReal.coe_mul_top_of_pos hv]; exact Or.inr (Or.inl rfl)
    · rw [EReal.coe_mul_bot_of_pos hv]; exact Or.inr (Or.inr rfl)

/-- The squares of a row of zeros and infinities, one of them an infinity, add up to +∞. -/
theorem sq_top {ι : Type} [Fintype ι] (o : ι → EReal) (h : ∀ i, Inf (o i)) (d : ι) (hd : o d ≠ 0) : (∑ x, o x * o x) = ⊤ := by
  have sq : ∀ i, 0 ≤ o i * o i := fun i => by rcases h i with e | e | e <;> rw [e] <;> simp
  have td : o d * o d = ⊤ := by rcases h d with e | e | e <;> first | exact absurd e hd | (rw [e]; simp)
  exact top_le_iff.1 (td ▸ Finset.single_le_sum (f := fun x => o x * o x) (fun i _ => sq i) (Finset.mem_univ d))

end Cert.Proof.Attn

end
-- ==== Proof.AttnStep.lean ====
/-
  The attention kernel's payloads at an index, and one key tile as a step of the row invariant.
-/
module

public import proofs.«01_k».proof.Proof.AttnPoint
public import proofs.«01_k».proof.Proof.AttnMath

@[expose] public section

set_option maxRecDepth 16384

noncomputable section

namespace Cert.Proof.Attn

open Cert.AttnIdeal Cert.AttnIdeal.Gen Idealize.ShloMosaic Idealize.ShloMosaic.TcCoe Idealize.SL.Sem

theorem neg_inf : Ideal.ofBits FTy.f32 4286578688#32 = (⊥ : EReal) := by simp [Ideal.ofBits, Ideal.ieee]

theorem pay15_at (r : Fin 1024) (l : Fin 128) : k0_pay15 (F := Ideal) (ix2 r l) = (⊥ : EReal) := by
  pointwise [k0_pay15]
  rfl

theorem pay16_at (r : Fin 1024) (l : Fin 128) : k0_pay16 (F := Ideal) (ix2 r l) = (0 : EReal) := by
  pointwise [k0_pay16]

theorem pay17_at (r : Fin 1024) (l : Fin 128) : k0_pay17 (F := Ideal) (ix2 r l) = (0 : EReal) := by
  pointwise [k0_pay17]

theorem pay21_at (r : Fin 1024) (j : Fin 512) : k0_pay21 rowI k0_pay20 (ix2 r j) = BitVec.ofNat 32 (r.val % 512) := by
  pointwise [k0_pay21, rowI, k0_pay20]
  revert r; decide +kernel

theorem pay22_at (r : Fin 1024) (j : Fin 512) : k0_pay22 colI (ix2 r j) = BitVec.ofNat 32 (j.val / 64) := by
  pointwise [k0_pay22, colI, k0_pay20]
  revert j; decide +kernel

/-- The query's row divided by the chunk length, as the kernel computes it. -/
theorem rowDiv : ∀ r : Fin 512, Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 r.val) 64#32) 0#32))
          (IntOp.subi (IntOp.divsi ArithUnit.vector (BitVec.ofNat 32 r.val) 64#32) 1#32)
          (IntOp.divsi ArithUnit.vector (BitVec.ofNat 32 r.val) 64#32) = BitVec.ofNat 32 (r.val / 64) := by decide +kernel

theorem sle_word : ∀ a b : Fin 8, IntOp.cmpi CmpIPredicate.sle (BitVec.ofNat 32 a.val) (BitVec.ofNat 32 b.val) = if a.val ≤ b.val then 1#1 else 0#1 := by
  decide +kernel

/-- The diagonal tile's scores: masked by the chunks of the key and of the query. -/
theorem mask_at (q : FVec Ideal S1024x128 .bf16) (kb : Vec Ideal S1x512x128 .bf16) (r : Fin 1024) (j : Fin 512) :
    maskedS q kb (ix2 r j) = if j.val / 64 ≤ (r.val % 512) / 64 then k0_pay2 q kb (ix2 r j) else (⊥ : EReal) := by
  have hr : r.val % 512 < 512 := Nat.mod_lt _ (by norm_num)
  have e1 := rowDiv ⟨r.val % 512, hr⟩
  have e2 := sle_word ⟨j.val / 64, by omega⟩ ⟨(r.val % 512) / 64, by omega⟩
  dsimp only at e1 e2
  pointwise [maskedS, k0_pay26, k0_pay23, k0_pay24, pay21_at, pay22_at, k0_pay2]
  rw [e1, e2]
  split
  · rfl
  · rfl

section Payloads

variable (q : FVec Ideal S1024x128 .bf16) (kb vb : Vec Ideal S1x512x128 .bf16) (m s : Vec Ideal S1024x128 .f32)

theorem pay3_at (r : Fin 1024) (l : Fin 128) :
    k0_pay3 q kb m (ix2 r l) = max (m (ix2 r l)) (Finset.fold max ⊥ (fun x => k0_pay2 q kb (ix2 r x)) Finset.univ) := by
  pointwise [k0_pay3]
  rw [neg_inf]

theorem pay5_at (r : Fin 1024) (j : Fin 512) (M : EReal) (hM : ∀ l, k0_pay3 q kb m (ix2 r l) = M) :
    k0_pay5 q kb m (ix2 r j) = Ideal.exp (k0_pay2 q kb (ix2 r j) - M) := by
  pointwise [k0_pay5]
  simp only [hM, ite_self, dite_eq_ite]

theorem pay6_at (r : Fin 1024) (l : Fin 128) (M : EReal) (hM : ∀ l, k0_pay3 q kb m (ix2 r l) = M) :
    k0_pay6 q kb m s (ix2 r l) = Ideal.exp (m (ix2 r l) - M) * s (ix2 r l) + ∑ x, Ideal.exp (k0_pay2 q kb (ix2 r x) - M) := by
  pointwise [k0_pay6, k0_pay4]
  simp only [hM, pay5_at q kb m r _ M hM]

theorem pay7_at (r : Fin 1024) (l : Fin 128) (M : EReal) (hM : ∀ l, k0_pay3 q kb m (ix2 r l) = M) :
    k0_pay7 q kb vb m s (ix2 r l) = Ideal.exp (m (ix2 r l) - M) * s (ix2 r l)
      + ∑ x, Ideal.exp (k0_pay2 q kb (ix2 r x) - M) * vb (ix3 0 x l) := by
  pointwise [k0_pay7, k0_pay4]
  simp only [hM, pay5_at q kb m r _ M hM]

/-- The running maximum after the diagonal tile. -/
abbrev lastM : FVec Ideal S1024x128 .f32 :=
  k0_pay27 q (k0_pay21 rowI k0_pay20) (k0_pay22 colI) 64#32 (k0_pay23 rowI k0_pay20) (k0_pay24 rowI k0_pay20) kb m

theorem lastM_at (r : Fin 1024) (l : Fin 128) :
    lastM q kb m (ix2 r l) = max (m (ix2 r l)) (Finset.fold max ⊥ (fun x => maskedS q kb (ix2 r x)) Finset.univ) := by
  unfold lastM
  pointwise [k0_pay27]
  rw [neg_inf]

theorem lastP_at (r : Fin 1024) (j : Fin 512) (M : EReal) (hM : ∀ l, lastM q kb m (ix2 r l) = M) :
    k0_pay29 q (k0_pay21 rowI k0_pay20) (k0_pay22 colI) 64#32 (k0_pay23 rowI k0_pay20) (k0_pay24 rowI k0_pay20) kb m (ix2 r j)
      = Ideal.exp (maskedS q kb (ix2 r j) - M) := by
  pointwise [k0_pay29]
  simp only [hM, ite_self, dite_eq_ite]

theorem lastL_at (s : St) (r : Fin 1024) (l : Fin 128) (M : EReal) (hM : ∀ l, lastM q kb s.1 (ix2 r l) = M) :
    lastL q kb s (ix2 r l) = Ideal.exp (s.1 (ix2 r l) - M) * s.2.1 (ix2 r l) + ∑ x, Ideal.exp (maskedS q kb (ix2 r x) - M) := by
  unfold lastL
  pointwise [k0_pay30, k0_pay28]
  simp only [hM, lastP_at q kb s.1 r _ M hM]

theorem lastA_at (s : St) (r : Fin 1024) (l : Fin 128) (M : EReal) (hM : ∀ l, lastM q kb s.1 (ix2 r l) = M) :
    lastA q kb vb s (ix2 r l) = Ideal.exp (s.1 (ix2 r l) - M) * s.2.2 (ix2 r l)
      + ∑ x, Ideal.exp (maskedS q kb (ix2 r x) - M) * vb (ix3 0 x l) := by
  unfold lastA
  pointwise [k0_pay33, k0_pay31, k0_pay32, k0_pay25, k0_pay28]
  simp only [hM, lastP_at q kb s.1 r _ M hM]

end Payloads

theorem pay14_at (x1 : Vec Ideal S1x512x128 .bf16) (r : Fin 1024) (e : Fin 128) :
    k0_pay14 x1 (ix2 r e) = if r.val / 512 = e.val / 64 then x1 (ix3 0 ⟨r.val % 512, Nat.mod_lt _ (by norm_num)⟩ e) else (0 : EReal) := by
  have h1 : ∀ e : Fin 128, IntOp.cmpi CmpIPredicate.slt (BitVec.ofNat 32 e.val) 64#32 = if e.val / 64 = 0 then 1#1 else 0#1 := by decide +kernel
  have h2 : ∀ e : Fin 128, IntOp.cmpi CmpIPredicate.sge (BitVec.ofNat 32 e.val) 64#32 = if e.val / 64 = 1 then 1#1 else 0#1 := by decide +kernel
  pointwise [k0_pay14]
  rw [h1, h2]
  split
  · rename_i h
    have e0 : r.val / 512 = 0 := by omega
    have e1 : r.val % 512 = r.val := by omega
    simp only [e0, e1, eq_comm (a := 0)]
    split
    · rfl
    · rfl
  · rename_i h
    have e0 : r.val / 512 = 1 := by omega
    have e1 : r.val % 512 = r.val - 512 := by omega
    simp only [e0, e1, eq_comm (a := 1)]
    split
    · rfl
    · rfl

end Cert.Proof.Attn

end
-- ==== Proof.AttnRow.lean ====
/-
  The attention kernel, one query row: the loop over the key tiles and the diagonal tile keep the row invariant,
  so what the point divides is the plain softmax quotient over the whole sequence.
-/
module

public import proofs.«01_k».proof.Proof.AttnStep

@[expose] public section

set_option maxRecDepth 16384

noncomputable section

namespace Cert.Proof.Attn

open Cert.AttnIdeal Cert.AttnIdeal.Gen Idealize.ShloMosaic Idealize.ShloMosaic.TcCoe Idealize.SL.Sem

/-- Lane `e` of the half `a` of a head's 128 lanes. -/
def lane (a : Fin 2) (e : Fin 64) : Fin 128 := ⟨64 * a.val + e.val, by omega⟩

/-- The score of a query against a key on the half `a` of the head's lanes. -/
def sg (qf : Fin 128 → EReal) (kf : Fin 128 → EReal) (a : Fin 2) : EReal := ∑ e : Fin 64, qf (lane a e) * kf (lane a e)

theorem sum_half (f : Fin 128 → EReal) (a : Fin 2) :
    (∑ x : Fin 128, if a.val = x.val / 64 then f x else 0) = ∑ e : Fin 64, f (lane a e) := by
  rw [← Finset.sum_filter]
  refine (Finset.sum_bij (fun e _ => lane a e) ?_ ?_ ?_ ?_).symm
  · intro e _; rw [Finset.mem_filter]; refine ⟨Finset.mem_univ _, ?_⟩; show a.val = (64 * a.val + e.val) / 64; omega
  · intro e _ e' _ h; have := congrArg Fin.val h; change 64 * a.val + e.val = 64 * a.val + e'.val at this; exact Fin.ext (by omega)
  · intro x hx; rw [Finset.mem_filter] at hx
    refine ⟨⟨x.val % 64, Nat.mod_lt _ (by norm_num)⟩, Finset.mem_univ _, Fin.ext ?_⟩
    show 64 * a.val + x.val % 64 = x.val; have := hx.2; omega
  · intro e _; rfl

/-- The tile's scores are the scores. -/
theorem score_at (x1 : Vec Ideal S1x512x128 .bf16) (kb : Vec Ideal S1x512x128 .bf16) (R : Fin 1024) (j : Fin 512)
    (qf kf : Fin 128 → EReal) (hq : ∀ e, x1 (ix3 0 ⟨R.val % 512, Nat.mod_lt _ (by norm_num)⟩ e) = qf e)
    (hk : ∀ e, kb (ix3 0 j e) = kf e) :
    k0_pay2 (k0_pay14 x1) kb (ix2 R j) = sg qf kf ⟨R.val / 512, by omega⟩ := by
  have h : k0_pay2 (k0_pay14 x1) kb (ix2 R j) = ∑ x, k0_pay14 x1 (ix2 R x) * kb (ix3 0 j x) := by
    pointwise [k0_pay2]
  rw [h]
  unfold sg
  rw [← sum_half (fun x => qf x * kf x) ⟨R.val / 512, by omega⟩]
  refine Finset.sum_congr rfl fun x _ => ?_
  rw [pay14_at, hq, hk]
  dsimp only
  split
  · rfl
  · rw [zero_mul]

/-- The row invariant on the three scratch arrays. -/
def RowInv (M : EReal) (E : ℝ) (V : Fin 128 → ℝ) (r : Fin 1024) (s : St) : Prop :=
  (∀ l, s.1 (ix2 r l) = M) ∧ ∀ l, Inv E (V l) M (s.2.1 (ix2 r l)) (s.2.2 (ix2 r l))

theorem rowInv_st0 (r : Fin 1024) : RowInv ⊥ 0 (fun _ => 0) r st0 :=
  ⟨fun l => pay15_at r l, fun l => Or.inl ⟨rfl, rfl, rfl, pay16_at r l, pay17_at r l⟩⟩

theorem scr_true (x : EReal) : scr True x = x := if_pos trivial

/-- The weight of a score that passes. -/
def ew (x : EReal) : ℝ := (Ideal.exp x).toReal

theorem wgt_true (x : EReal) : wgt True x = ew x := if_pos trivial

theorem pay18_eq (m : FVec Ideal S1024x128 .f32) (r : Fin 1024) (l : Fin 128) : k0_pay18 m (ix2 r l) = m (ix2 r l) := by
  pointwise [k0_pay18]

/-- One unmasked tile keeps the row invariant. -/
theorem rowInv_step {M : EReal} {E : ℝ} {V : Fin 128 → ℝ} {r : Fin 1024} {s : St} (h : RowInv M E V r s) (q : FVec Ideal S1024x128 .bf16)
    (kb vb : Vec Ideal S1x512x128 .bf16) (x : Fin 512 → EReal) (v : Fin 512 → Fin 128 → ℝ)
    (hx : ∀ j, k0_pay2 q kb (ix2 r j) = x j) (hv : ∀ j l, vb (ix3 0 j l) = ((v j l : ℝ) : EReal)) :
    RowInv (max M (tops Finset.univ x)) (E + ∑ j, ew (x j)) (fun l => V l + ∑ j, ew (x j) * v j l) r (stepS q kb vb s) := by
  obtain ⟨hM, hI⟩ := h
  have hM' : ∀ l, k0_pay3 q kb s.1 (ix2 r l) = max M (tops Finset.univ x) := fun l => by
    rw [pay3_at, hM]; simp only [hx]
  refine ⟨fun l => (pay18_eq _ _ _).trans (hM' l), fun l => ?_⟩
  have := (hI l).step (fun _ => True) x (fun j => v j l) (max M (tops Finset.univ x)) (by simp only [scr_true])
  simp only [wgt_true, scr_true] at this
  have e1 : (stepS q kb vb s).2.1 (ix2 r l) = _ := pay6_at q kb s.1 s.2.1 r l _ hM'
  have e2 : (stepS q kb vb s).2.2 (ix2 r l) = _ := pay7_at q kb vb s.1 s.2.2 r l _ hM'
  rw [e1, e2]
  simp only [hx, hv, hM]
  exact this

/-- The diagonal tile: what the point divides. -/
theorem row_last {M : EReal} {E : ℝ} {V : Fin 128 → ℝ} {r : Fin 1024} {s : St} (h : RowInv M E V r s) (q : FVec Ideal S1024x128 .bf16)
    (kb vb : Vec Ideal S1x512x128 .bf16) (x : Fin 512 → EReal) (v : Fin 512 → Fin 128 → ℝ)
    (hx : ∀ j, k0_pay2 q kb (ix2 r j) = x j) (hv : ∀ j l, vb (ix3 0 j l) = ((v j l : ℝ) : EReal)) (l : Fin 128) :
    Ideal.div (lastA q kb vb s (ix2 r l)) (lastL q kb s (ix2 r l))
      = quot (max M (tops Finset.univ fun j : Fin 512 => scr (j.val / 64 ≤ (r.val % 512) / 64) (x j)))
          (V l + ∑ j : Fin 512, wgt (j.val / 64 ≤ (r.val % 512) / 64) (x j) * v j l)
          (E + ∑ j : Fin 512, wgt (j.val / 64 ≤ (r.val % 512) / 64) (x j)) := by
  obtain ⟨hM, hI⟩ := h
  have hs : ∀ j : Fin 512, maskedS q kb (ix2 r j) = scr (j.val / 64 ≤ (r.val % 512) / 64) (x j) := fun j => by
    rw [mask_at, hx]; rfl
  have hM' : ∀ l, lastM q kb s.1 (ix2 r l) = max M (tops Finset.univ (fun j : Fin 512 => scr (j.val / 64 ≤ (r.val % 512) / 64) (x j))) := fun l => by
    rw [lastM_at, hM]; simp only [hs]
  have := (hI l).step (fun j : Fin 512 => j.val / 64 ≤ (r.val % 512) / 64) x (fun j => v j l) _ rfl
  rw [lastA_at q kb vb s r l _ hM', lastL_at q kb s r l _ hM']
  simp only [hs, hv, hM]
  exact this.div

/-- The key or value tile of a trip at an index. -/
theorem tileAt_at (i : grid0.Coords) (x : Vec Ideal S1x4096x128 .bf16) (k : Fin (k0_t1_loop i).trips) (j : Fin 512) (e : Fin 128)
    (h : 512 * k.val + j.val < 4096) : tileAt i x k (ix3 0 j e) = x (ix3 0 ⟨512 * k.val + j.val, h⟩ e) := by
  have hk : k.val < 8 := lt_of_lt_of_le k.isLt ((trips1 i).le.trans (i 2).isLt.le)
  have ho : ∀ k : Fin 8, (Scalar.indexCast (Scalar.muli (Scf.iv 0#32 1#32 k.val) 512#32)).toNat = 512 * k.val := by decide +kernel
  refine congrArg x (funext fun a => Fin.ext ?_)
  have h1 : k0_off1 i k 1 = 512 * k.val := ho ⟨k.val, hk⟩
  fin_cases a
  · rfl
  · show k0_off1 i k 1 + 1 * j.val = 512 * k.val + j.val
    rw [h1, one_mul]
  · show 0 + 1 * e.val = e.val
    omega

theorem tileDiag_at (i : grid0.Coords) (x : Vec Ideal S1x4096x128 .bf16) (j : Fin 512) (e : Fin 128)
    (h : 512 * (i 2).val + j.val < 4096) : tileDiag i x (ix3 0 j e) = x (ix3 0 ⟨512 * (i 2).val + j.val, h⟩ e) := by
  have ho : ∀ k : Fin 8, (Scalar.indexCast (Scalar.muli (BitVec.ofNat 32 k.val) 512#32)).toNat = 512 * k.val := by decide +kernel
  refine congrArg x (funext fun a => Fin.ext ?_)
  have h1 : k0_off3 i 1 = 512 * (i 2).val := ho (i 2)
  fin_cases a
  · rfl
  · show k0_off3 i 1 + 1 * j.val = 512 * (i 2).val + j.val
    rw [h1, one_mul]
  · show 0 + 1 * e.val = e.val
    omega

theorem sum_split (f : ℕ → ℝ) (i r : ℕ) (hi : i < 8) (hr : r < 512) :
    (∑ n ∈ Finset.range 4096, if n / 64 ≤ (512 * i + r) / 64 then f n else 0)
      = (∑ n ∈ Finset.range (512 * i), f n) + ∑ c : Fin 512, if c.val / 64 ≤ r / 64 then f (512 * i + c.val) else 0 := by
  have e : 4096 = 512 * i + (512 + (4096 - 512 * i - 512)) := by omega
  rw [e, Finset.sum_range_add, Finset.sum_range_add, ← add_zero (∑ c : Fin 512, _)]
  refine congrArg₂ (· + ·) (Finset.sum_congr rfl fun n hn => ?_) (congrArg₂ (· + ·) ?_ (Finset.sum_eq_zero fun n hn => ?_))
  · rw [Finset.mem_range] at hn; rw [if_pos (by omega)]
  · rw [Finset.sum_range]
    refine Finset.sum_congr rfl fun c _ => ?_
    have : (512 * i + c.val) / 64 ≤ (512 * i + r) / 64 ↔ c.val / 64 ≤ r / 64 := by omega
    simp only [this]
  · rw [if_neg (by omega)]

/-- The largest score over a sequence's first tiles, with one more. -/
theorem tops_succ (f : ℕ → EReal) (k : ℕ) :
    tops (Finset.range (512 * k + 512)) f = max (tops (Finset.range (512 * k)) f) (tops Finset.univ fun j : Fin 512 => f (512 * k + j.val)) := by
  refine eq_of_forall_ge_iff fun c => ?_
  rw [max_le_iff, tops_le, tops_le, tops_le]
  simp only [Finset.mem_range, Finset.mem_univ, true_implies]
  refine ⟨fun h => ⟨fun n hn => h n (by omega), fun j => h _ (by omega)⟩, fun ⟨h, h'⟩ n hn => ?_⟩
  by_cases hl : n < 512 * k
  · exact h n hl
  · have := h' ⟨n - 512 * k, by omega⟩
    rwa [show 512 * k + (n - 512 * k) = n by omega] at this

/-- The largest masked score of a row: the tiles before the diagonal, and the diagonal tile. -/
theorem tops_split (f : ℕ → EReal) (i r : ℕ) (hi : i < 8) (hr : r < 512) :
    tops (Finset.range 4096) (fun n => scr (n / 64 ≤ (512 * i + r) / 64) (f n))
      = max (tops (Finset.range (512 * i)) f) (tops Finset.univ fun j : Fin 512 => scr (j.val / 64 ≤ r / 64) (f (512 * i + j.val))) := by
  refine eq_of_forall_ge_iff fun c => ?_
  rw [max_le_iff, tops_le, tops_le, tops_le]
  simp only [Finset.mem_range, Finset.mem_univ, true_implies]
  unfold scr
  refine ⟨fun h => ⟨fun n hn => ?_, fun j => ?_⟩, fun ⟨h, h'⟩ n hn => ?_⟩
  · have := h n (by omega)
    rwa [if_pos (by omega)] at this
  · have := h (512 * i + j.val) (by omega)
    split
    · rwa [if_pos (by omega)] at this
    · exact bot_le
  · split
    · by_cases hl : n < 512 * i
      · exact h n hl
      · have := h' ⟨n - 512 * i, by omega⟩
        dsimp only at this
        rwa [show 512 * i + (n - 512 * i) = n by omega, if_pos (by omega)] at this
    · exact bot_le

section Point

variable (i : grid0.Coords) (x1 : Vec Ideal S1x512x128 .bf16) (x2 x3 : Vec Ideal S1x4096x128 .bf16)
  (R : Fin 1024) (qf : Fin 128 → EReal) (kf : ℕ → Fin 128 → EReal) (vf : ℕ → Fin 128 → ℝ)
  (hq : ∀ e, x1 (ix3 0 ⟨R.val % 512, Nat.mod_lt _ (by norm_num)⟩ e) = qf e)
  (hk : ∀ (n : ℕ) (h : n < 4096) (e : Fin 128), x2 (ix3 0 ⟨n, h⟩ e) = kf n e)
  (hv : ∀ (n : ℕ) (h : n < 4096) (e : Fin 128), x3 (ix3 0 ⟨n, h⟩ e) = ((vf n e : ℝ) : EReal))

include hq hk hv

/-- The loop over the tiles before the diagonal. -/
theorem loop_row (k : ℕ) (hk' : k ≤ (i 2).val) :
    RowInv (tops (Finset.range (512 * k)) fun n => sg qf (kf n) ⟨R.val / 512, by omega⟩)
      (∑ n ∈ Finset.range (512 * k), ew (sg qf (kf n) ⟨R.val / 512, by omega⟩))
      (fun l => ∑ n ∈ Finset.range (512 * k), ew (sg qf (kf n) ⟨R.val / 512, by omega⟩) * vf n l) R (stAt i x1 x2 x3 k) := by
  have hi : (i 2).val < 8 := (i 2).isLt
  induction k with
  | zero =>
    have h0 := rowInv_st0 R
    simp only [mul_zero, Finset.range_zero, Finset.sum_empty, tops, Finset.fold_empty]
    exact h0
  | succ k ih =>
    have hkt : k < (k0_t1_loop i).trips := by rw [trips1]; omega
    have est : stAt i x1 x2 x3 (k + 1) = stepS (k0_pay14 x1) (tileAt i x2 ⟨k, hkt⟩) (tileAt i x3 ⟨k, hkt⟩) (stAt i x1 x2 x3 k) := dif_pos hkt
    rw [est]
    have := rowInv_step (ih (by omega)) (k0_pay14 x1) (tileAt i x2 ⟨k, hkt⟩) (tileAt i x3 ⟨k, hkt⟩)
      (fun j => sg qf (kf (512 * k + j.val)) ⟨R.val / 512, by omega⟩) (fun j l => vf (512 * k + j.val) l)
      (fun j => score_at x1 _ R j qf (kf (512 * k + j.val)) hq fun e => by
        rw [tileAt_at i x2 ⟨k, hkt⟩ j e (by dsimp only; omega)]; exact hk _ _ _)
      (fun j l => by rw [tileAt_at i x3 ⟨k, hkt⟩ j l (by dsimp only; omega)]; exact hv _ _ _)
    rw [Nat.mul_succ, tops_succ]
    simp only [Finset.sum_range_add, Finset.sum_range (n := 512)]
    exact this

/-- What the point divides: the plain softmax quotient of the row over the whole sequence. -/
theorem quot_row (l : Fin 128) :
    Ideal.div (lastA (k0_pay14 x1) (tileDiag i x2) (tileDiag i x3) (stAt i x1 x2 x3 (k0_t1_loop i).trips) (ix2 R l))
        (lastL (k0_pay14 x1) (tileDiag i x2) (stAt i x1 x2 x3 (k0_t1_loop i).trips) (ix2 R l))
      = quot (tops (Finset.range 4096) fun n => scr (n / 64 ≤ (512 * (i 2).val + R.val % 512) / 64) (sg qf (kf n) ⟨R.val / 512, by omega⟩))
          (∑ n ∈ Finset.range 4096, wgt (n / 64 ≤ (512 * (i 2).val + R.val % 512) / 64) (sg qf (kf n) ⟨R.val / 512, by omega⟩) * vf n l)
          (∑ n ∈ Finset.range 4096, wgt (n / 64 ≤ (512 * (i 2).val + R.val % 512) / 64) (sg qf (kf n) ⟨R.val / 512, by omega⟩)) := by
  have hi : (i 2).val < 8 := (i 2).isLt
  have hr : R.val % 512 < 512 := Nat.mod_lt _ (by norm_num)
  have h := loop_row i x1 x2 x3 R qf kf vf hq hk hv (i 2).val le_rfl
  rw [← trips1 i] at h
  have hd := row_last h (k0_pay14 x1) (tileDiag i x2) (tileDiag i x3)
    (fun j => sg qf (kf (512 * (i 2).val + j.val)) ⟨R.val / 512, by omega⟩) (fun j l => vf (512 * (i 2).val + j.val) l)
    (fun j => score_at x1 _ R j qf (kf (512 * (i 2).val + j.val)) hq fun e => by
      rw [tileDiag_at i x2 j e (by omega)]; exact hk _ _ _)
    (fun j l => by rw [tileDiag_at i x3 j l (by omega)]; exact hv _ _ _) l
  rw [hd, trips1 i]
  have e1 := sum_split (fun n => ew (sg qf (kf n) ⟨R.val / 512, by omega⟩)) (i 2).val (R.val % 512) hi hr
  have e2 := sum_split (fun n => ew (sg qf (kf n) ⟨R.val / 512, by omega⟩) * vf n l) (i 2).val (R.val % 512) hi hr
  have e3 := tops_split (fun n => sg qf (kf n) ⟨R.val / 512, by omega⟩) (i 2).val (R.val % 512) hi hr
  rw [e3]
  unfold wgt
  simp only [ite_mul, zero_mul]
  unfold ew at e1 e2 ⊢
  rw [e1, e2]

end Point

end Cert.Proof.Attn

end
-- ==== Proof.AttnRef.lean ====
/-
  The attention reference read at an index: masked scores, softmax, the difference of the two maps against the
  values, and the normalisation of each head.
-/
module

public import proofs.«01_k».proof.Proof.Gen.AttnRefIdeal.Run
public import Idealize.ShloMosaic.Lib.Pipeline.ValueKit
public import Idealize.ShloMosaic.Lib.Pointwise
public import proofs.«01_k».proof.Proof.AttnMath

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

/-- The chunk number of each position. -/
def chunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The plain scores of the two maps of each head. -/
def dots (q k : FVec Ideal S16x4096x1024 .bf16) : FVec Ideal S16x8x2x4096x4096 .f32 :=
  Host.dotGeneral dot_S16x4096x8x2x64_S16x4096x8x2x64_S16x8x2x4096x4096_4_4_1_1_023_023 none
    (shapeCast _ (extf .f32 q bitsLt_bf16_f32) shapeCasts_S16x4096x1024_S16x4096x8x2x64)
    (shapeCast _ (extf .f32 k bitsLt_bf16_f32) shapeCasts_S16x4096x1024_S16x4096x8x2x64)

/-- The scores masked to the chunks up to the query's. -/
def scores (q k : FVec Ideal S16x4096x1024 .bf16) : FVec Ideal S16x8x2x4096x4096 .f32 :=
  select (broadcastInDim S16x8x2x4096x4096 ![3, 4] bcast_S4096x4096_S16x8x2x4096x4096_3_4
      (cmpi .sle (broadcastInDim S4096x4096 ![0, 1] bcast_S1x4096_S4096x4096_0_1 (broadcastInDim S1x4096 ![1] bcast_S4096_S1x4096_1 chunk))
        (broadcastInDim S4096x4096 ![0, 1] bcast_S4096x1_S4096x4096_0_1 (broadcastInDim S4096x1 ![0] bcast_S4096_S4096x1_0 chunk))))
    (dots q k) (broadcastInDim S16x8x2x4096x4096 ![] bcast_S_S16x8x2x4096x4096 (id (constant S_ .f32 0xFF800000#32)))

/-- The rows' maxima. -/
def maxs (s : FVec Ideal S16x8x2x4096x4096 .f32) : FVec Ideal S16x8x2x4096 .f32 :=
  Host.reduce FloatOps.maximumf s (constant S_ .f32 0xFF800000#32) reducesTo_S16x8x2x4096x4096_S16x8x2x4096_d4 h_S_

/-- The exponentials of the scores less the row's maximum. -/
def expos (s : FVec Ideal S16x8x2x4096x4096 .f32) : FVec Ideal S16x8x2x4096x4096 .f32 :=
  Host.exp (subf s (broadcastInDim S16x8x2x4096x4096 ![0, 1, 2, 3, 4] bcast_S16x8x2x4096x1_S16x8x2x4096x4096_0_1_2_3_4
    (broadcastInDim S16x8x2x4096x1 ![0, 1, 2, 3] bcast_S16x8x2x4096_S16x8x2x4096x1_0_1_2_3
      (maximumf (broadcastInDim S16x8x2x4096 ![] bcast_S_S16x8x2x4096 (constant S_ .f32 0xFF800000#32))
        (maxs s)))))

/-- The softmax of the scores. -/
def probs (e : FVec Ideal S16x8x2x4096x4096 .f32) : FVec Ideal S16x8x2x4096x4096 .f32 :=
  Host.divf e (broadcastInDim S16x8x2x4096x4096 ![0, 1, 2, 3, 4] bcast_S16x8x2x4096x1_S16x8x2x4096x4096_0_1_2_3_4
    (broadcastInDim S16x8x2x4096x1 ![0, 1, 2, 3] bcast_S16x8x2x4096_S16x8x2x4096x1_0_1_2_3
      (Host.reduceAdd e (constant S_ .f32 0x00000000#32) reducesTo_S16x8x2x4096x4096_S16x8x2x4096_d4 h_S_)))

/-- The mixing coefficient of the two maps. -/
def lamS (a0 a1 a2 a3 : FVec Ideal S1x64 .f32) : FVec Ideal S_ .f32 :=
  addf (subf (Host.exp (Host.reduceAdd (mulf (shapeCast _ a0 shapeCasts_S1x64_S64) (shapeCast _ a1 shapeCasts_S1x64_S64)) (constant S_ .f32 0x00000000#32) reducesTo_S64_S_d0 h_S_))
    (Host.exp (Host.reduceAdd (mulf (shapeCast _ a2 shapeCasts_S1x64_S64) (shapeCast _ a3 shapeCasts_S1x64_S64)) (constant S_ .f32 0x00000000#32) reducesTo_S64_S_d0 h_S_)))
    (constant S_ .f32 0x3E4CCCCD#32)

/-- The difference of the two maps. -/
def diffs (lam : FVec Ideal S_ .f32) (p : FVec Ideal S16x8x2x4096x4096 .f32) : FVec Ideal S16x8x4096x4096 .f32 :=
  subf (shapeCast _ (extractStridedSlice S16x8x1x4096x4096 ![0, 0, 0, 0, 0] p slices_S16x8x2x4096x4096_S16x8x1x4096x4096_0_0_0_0_0) shapeCasts_S16x8x1x4096x4096_S16x8x4096x4096)
    (mulf (broadcastInDim S16x8x4096x4096 ![] bcast_S_S16x8x4096x4096 lam)
      (shapeCast _ (extractStridedSlice S16x8x1x4096x4096 ![0, 0, 1, 0, 0] p slices_S16x8x2x4096x4096_S16x8x1x4096x4096_0_0_1_0_0) shapeCasts_S16x8x1x4096x4096_S16x8x4096x4096))

/-- The heads' outputs before the normalisation. -/
def heads (w : FVec Ideal S16x8x4096x4096 .f32) (v : FVec Ideal S16x4096x1024 .bf16) : FVec Ideal S16x4096x8x128 .f32 :=
  transpose S16x4096x8x128 [0, 3, 1, 2] (Host.dotGeneral dot_S16x4096x8x128_S16x8x4096x4096_S16x8x128x4096_1_3_3_2_02_01 none
    (shapeCast _ (extf .f32 v bitsLt_bf16_f32) shapeCasts_S16x4096x1024_S16x4096x8x128) w) transposes_S16x8x128x4096_S16x4096x8x128_0_3_1_2

/-- The normalised heads. -/
def normed (o : FVec Ideal S16x4096x8x128 .f32) (g : FVec Ideal S1x128 .f32) : FVec Ideal S16x4096x1024 .bf16 :=
  truncf .bf16 (shapeCast _ (mulf (mulf (mulf o (broadcastInDim S16x4096x8x128 ![0, 1, 2, 3] bcast_S16x4096x8x1_S16x4096x8x128_0_1_2_3
      (Host.rsqrt (addf (Host.divf (broadcastInDim S16x4096x8x1 ![0, 1, 2] bcast_S16x4096x8_S16x4096x8x1_0_1_2
          (Host.reduceAdd (mulf o o) (constant S_ .f32 0x00000000#32) reducesTo_S16x4096x8x128_S16x4096x8_d3 h_S_))
        (broadcastInDim S16x4096x8x1 ![] bcast_S_S16x4096x8x1 (constant S_ .f32 0x43000000#32)))
        (broadcastInDim S16x4096x8x1 ![] bcast_S_S16x4096x8x1 (constant S_ .f32 0x358637BD#32))))))
      (broadcastInDim S16x4096x8x128 ![0, 1, 2, 3] bcast_S1x1x1x128_S16x4096x8x128_0_1_2_3 (broadcastInDim S1x1x1x128 ![3] bcast_S128_S1x1x1x128_3 (shapeCast _ g shapeCasts_S1x128_S128))))
      (broadcastInDim S16x4096x8x128 ![] bcast_S_S16x4096x8x128 (constant S_ .f32 0x3F4CCCCD#32))) shapeCasts_S16x4096x8x128_S16x4096x1024) bitsLt_bf16_f32

/-- The reference's result is these steps composed. -/
theorem res_eq (m : (ℓ : Loc nD τ sig) → Buf (Elt Ideal) ℓ) (c : Dev nD) :
    Value.res_main_v66 m c = normed (heads (diffs
        (lamS (m ((c.tc : Thread nD τ).loc main_arg0)) (m ((c.tc : Thread nD τ).loc main_arg1)) (m ((c.tc : Thread nD τ).loc main_arg2)) (m ((c.tc : Thread nD τ).loc main_arg3)))
        (probs (expos (scores (m ((c.tc : Thread nD τ).loc main_arg5)) (m ((c.tc : Thread nD τ).loc main_arg6))))))
      (m ((c.tc : Thread nD τ).loc main_arg7))) (m ((c.tc : Thread nD τ).loc main_arg4)) := rfl

theorem neg_inf : Ideal.ofBits FTy.f32 4286578688#32 = (⊥ : EReal) := by simp [Ideal.ofBits, Ideal.ieee]

theorem sle_word : ∀ a b : Fin 64, IntOp.cmpi CmpIPredicate.sle (BitVec.ofNat 32 a.val) (BitVec.ofNat 32 b.val) = if a.val ≤ b.val then 1#1 else 0#1 := by
  decide +kernel

/-- Lane `e` of the half `a` of head `h`. -/
def col (h : Fin 8) (a : Fin 2) (e : Fin 64) : Fin 1024 := ⟨h.val * 128 + a.val * 64 + e.val, by omega⟩

/-- A maximum along the last of five axes is the maximum over its entries. -/
theorem reduce_max_last {n0 n1 n2 n3 n4 : ℕ} {t u : Shape} (x : FVec Ideal ⟨5, ![n0, n1, n2, n3, n4]⟩ .f32) (init : u.Idx → EReal)
    (h : (⟨5, ![n0, n1, n2, n3, n4]⟩ : Shape).ReducesTo [4] t) (hu : 0 < u.numel) (j : t.Idx) :
    Host.reduce (FloatOps.maximumf (F := Ideal) (φ := .f32)) x init h hu j
      = Finset.fold max (init (Shape.Idx.first hu)) (fun k : Fin n4 => x (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k)) Finset.univ := by
  rw [Host.reduce_eq_fold]
  exact h.fold_fiber_r5_a4 j (max : EReal → EReal → EReal) _ _

end Cert.Proof.AttnR

end
-- ==== Proof.AttnRefB.lean ====
/-
  The reference's attention, read at an index: AttnRefB.
-/
module

public import proofs.«01_k».proof.Proof.AttnRef

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem dots_at (q k : FVec Ideal S16x4096x1024 .bf16) (b : Fin 16) (h : Fin 8) (a : Fin 2) (r j : Fin 4096) :
    dots q k (ix5 b h a r j) = ∑ e, q (ix3 b r (col h a e)) * k (ix3 b j (col h a e)) := by
  pointwise [dots]
  rfl

end Cert.Proof.AttnR

end
-- ==== Proof.AttnRefD.lean ====
/-
  The reference's attention, read at an index: AttnRefD.
-/
module

public import proofs.«01_k».proof.Proof.AttnRef

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem probs_at (e : FVec Ideal S16x8x2x4096x4096 .f32) (b : Fin 16) (h : Fin 8) (a : Fin 2) (r j : Fin 4096) :
    probs e (ix5 b h a r j) = Ideal.div (e (ix5 b h a r j)) (∑ x, e (ix5 b h a r x)) := by
  pointwise [probs]

end Cert.Proof.AttnR

end
-- ==== Proof.AttnRefE.lean ====
/-
  The reference's attention, read at an index: AttnRefE.
-/
module

public import proofs.«01_k».proof.Proof.AttnRef

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem diffs_at (lam : FVec Ideal S_ .f32) (p : FVec Ideal S16x8x2x4096x4096 .f32) (b : Fin 16) (h : Fin 8) (r j : Fin 4096) :
    diffs lam p (ix4 b h r j) = p (ix5 b h 0 r j) - lam ix0 * p (ix5 b h 1 r j) := by
  pointwise [diffs]

end Cert.Proof.AttnR

end
-- ==== Proof.AttnRefF.lean ====
/-
  The reference's attention, read at an index: AttnRefF.
-/
module

public import proofs.«01_k».proof.Proof.AttnRef

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem heads_at (w : FVec Ideal S16x8x4096x4096 .f32) (v : FVec Ideal S16x4096x1024 .bf16) (b : Fin 16) (h : Fin 8) (r : Fin 4096) (d : Fin 128) :
    heads w v (ix4 b r h d) = ∑ j, v (ix3 b j ⟨h.val * 128 + d.val, by omega⟩) * w (ix4 b h r j) := by
  pointwise [heads]

end Cert.Proof.AttnR

end
-- ==== Proof.AttnRefG.lean ====
/-
  The reference's attention, read at an index: AttnRefG.
-/
module

public import proofs.«01_k».proof.Proof.AttnRef

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem normed_at (o : FVec Ideal S16x4096x8x128 .f32) (g : FVec Ideal S1x128 .f32) (b : Fin 16) (r : Fin 4096) (D : Fin 1024) :
    normed o g (ix3 b r D) = o (ix4 b r ⟨D.val / 128, by omega⟩ ⟨D.val % 128, by omega⟩)
      * Ideal.rsqrt (Ideal.div (∑ x, o (ix4 b r ⟨D.val / 128, by omega⟩ x) * o (ix4 b r ⟨D.val / 128, by omega⟩ x)) (Ideal.ofBits FTy.f32 1124073472#32)
          + Ideal.ofBits FTy.f32 897988541#32)
      * g (ix2 0 ⟨D.val % 128, by omega⟩) * Ideal.ofBits FTy.f32 1061997773#32 := by
  pointwise [normed]

theorem lam_at (a0 a1 a2 a3 : FVec Ideal S1x64 .f32) :
    lamS a0 a1 a2 a3 ix0 = Ideal.exp (∑ x, a0 (ix2 0 x) * a1 (ix2 0 x)) - Ideal.exp (∑ x, a2 (ix2 0 x) * a3 (ix2 0 x)) + Ideal.ofBits FTy.f32 1045220557#32 := by
  pointwise [lamS]

end Cert.Proof.AttnR

end
-- ==== Proof.AttnRefA.lean ====
/-
  The reference's attention, read at an index: AttnRefA.
-/
module

public import proofs.«01_k».proof.Proof.AttnRef

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem chunk_at (j : Fin 4096) : chunk (ix1 j) = BitVec.ofNat 32 (j.val / 64) := by
  pointwise [chunk]
  revert j; decide +kernel

end Cert.Proof.AttnR

end
-- ==== Proof.AttnRefH.lean ====
/-
  The reference's attention, read at an index: AttnRefH.
-/
module

public import proofs.«01_k».proof.Proof.AttnRefA

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem scores_at (q k : FVec Ideal S16x4096x1024 .bf16) (b : Fin 16) (h : Fin 8) (a : Fin 2) (r j : Fin 4096) :
    scores q k (ix5 b h a r j) = if j.val / 64 ≤ r.val / 64 then dots q k (ix5 b h a r j) else (⊥ : EReal) := by
  have e := sle_word ⟨j.val / 64, by omega⟩ ⟨r.val / 64, by omega⟩
  dsimp only at e
  pointwise [scores, chunk_at]
  rw [e]
  split
  · rfl
  · exact neg_inf

end Cert.Proof.AttnR

end
-- ==== Proof.AttnRefC.lean ====
/-
  The reference's attention, read at an index: AttnRefC.
-/
module

public import proofs.«01_k».proof.Proof.AttnRef

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

theorem maxs_at (s : FVec Ideal S16x8x2x4096x4096 .f32) (b : Fin 16) (h : Fin 8) (a : Fin 2) (r : Fin 4096) :
    maxs s (ix4 b h a r) = Finset.fold max ⊥ (fun x => s (ix5 b h a r x)) Finset.univ := by
  unfold maxs
  rw [reduce_max_last]
  exact congrArg (fun z : EReal => Finset.fold max z (fun x => s (ix5 b h a r x)) Finset.univ) neg_inf

end Cert.Proof.AttnR

end
-- ==== Proof.AttnRefI.lean ====
/-
  The reference's attention, read at an index: AttnRefI.
-/
module

public import proofs.«01_k».proof.Proof.AttnRefC

@[expose] public section

set_option maxRecDepth 16384

noncomputable section

namespace Cert.Proof.AttnR

open Cert.AttnRefIdeal Cert.AttnRefIdeal.Gen Idealize.ShloMosaic Idealize.ShloMosaic.TcCoe Idealize.SL.Sem Idealize.ShloMosaic.StableHlo

/-- A row's value at every key. -/
def spread (x : FVec Ideal S16x8x2x4096 .f32) : FVec Ideal S16x8x2x4096x4096 .f32 :=
  broadcastInDim S16x8x2x4096x4096 ![0, 1, 2, 3, 4] bcast_S16x8x2x4096x1_S16x8x2x4096x4096_0_1_2_3_4
    (broadcastInDim S16x8x2x4096x1 ![0, 1, 2, 3] bcast_S16x8x2x4096_S16x8x2x4096x1_0_1_2_3 x)

theorem spread_at (x : FVec Ideal S16x8x2x4096 .f32) (b : Fin 16) (h : Fin 8) (a : Fin 2) (r j : Fin 4096) :
    spread x (ix5 b h a r j) = x (ix4 b h a r) := by
  pointwise [spread]

/-- The rows' maxima, from minus infinity up. -/
def tops (s : FVec Ideal S16x8x2x4096x4096 .f32) : FVec Ideal S16x8x2x4096 .f32 :=
  maximumf (broadcastInDim S16x8x2x4096 ![] bcast_S_S16x8x2x4096 (constant S_ .f32 0xFF800000#32)) (maxs s)

theorem from_bot (M : FVec Ideal S16x8x2x4096 .f32) (i : S16x8x2x4096.Idx) :
    maximumf (broadcastInDim S16x8x2x4096 ![] bcast_S_S16x8x2x4096 (constant S_ .f32 0xFF800000#32)) M i = max (Ideal.ofBits FTy.f32 0xFF800000#32) (M i) := rfl

theorem tops_at (s : FVec Ideal S16x8x2x4096x4096 .f32) (b : Fin 16) (h : Fin 8) (a : Fin 2) (r : Fin 4096) :
    tops s (ix4 b h a r) = max ⊥ (Finset.fold max ⊥ (fun x => s (ix5 b h a r x)) Finset.univ) := by
  unfold tops
  rw [from_bot, maxs_at, neg_inf]

theorem expos_at (s : FVec Ideal S16x8x2x4096x4096 .f32) (b : Fin 16) (h : Fin 8) (a : Fin 2) (r j : Fin 4096) :
    expos s (ix5 b h a r j) = Ideal.exp (s (ix5 b h a r j) - max ⊥ (Finset.fold max ⊥ (fun x => s (ix5 b h a r x)) Finset.univ)) := by
  have e : expos s (ix5 b h a r j) = Ideal.exp (s (ix5 b h a r j) - spread (tops s) (ix5 b h a r j)) := rfl
  rw [e, spread_at, tops_at]

end Cert.Proof.AttnR

end
-- ==== Proof.AttnVal.lean ====
/-
  The attention at one output element, on both sides: over real values the reference's head output and the kernel's
  block are the same difference of two softmax quotients, normalised by the same row mean; where a softmax row has no real
  maximum, the normalisation takes both rows to zero.
-/
module

public import proofs.«01_k».proof.Proof.AttnRow
public import proofs.«01_k».proof.Proof.AttnRefB
public import proofs.«01_k».proof.Proof.AttnRefD
public import proofs.«01_k».proof.Proof.AttnRefE
public import proofs.«01_k».proof.Proof.AttnRefF
public import proofs.«01_k».proof.Proof.AttnRefG
public import proofs.«01_k».proof.Proof.AttnRefH
public import proofs.«01_k».proof.Proof.AttnRefI

@[expose] public section

set_option maxRecDepth 16384

noncomputable section

namespace Cert.Proof.Attn

open Idealize.ShloMosaic Idealize.ShloMosaic.TcCoe Idealize.SL.Sem

/-- The row normalisation of one head's output, the weight and the factor that follow it. -/
def nrm (o g : Fin 128 → EReal) (l : Fin 128) : EReal :=
  o l * Ideal.rsqrt (Ideal.div (∑ x, o x * o x) (Ideal.ofBits FTy.f32 1124073472#32) + Ideal.ofBits FTy.f32 897988541#32)
    * g l * Ideal.ofBits FTy.f32 1061997773#32

/-- Every entry is a real number. -/
def Reals {s : Shape} {φ : FTy} (x : FVec Ideal s φ) : Prop := ∀ i, x i = ((EReal.toReal (x i) : ℝ) : EReal)

/-- The 128 lanes of head `h` in row `n`, as real numbers. -/
def rowR (x : FVec Ideal Cert.AttnRefIdeal.S16x4096x1024 .bf16) (b : Fin 16) (h : Fin 8) (n : ℕ) (e : Fin 128) : ℝ :=
  if hn : n < 4096 then EReal.toReal (x (ix3 b ⟨n, hn⟩ ⟨h.val * 128 + e.val, by omega⟩)) else 0

theorem rowR_eq {x : FVec Ideal Cert.AttnRefIdeal.S16x4096x1024 .bf16} (hx : Reals x) (b : Fin 16) (h : Fin 8) (n : Fin 4096) (e : Fin 128) :
    x (ix3 b n ⟨h.val * 128 + e.val, by omega⟩) = ((rowR x b h n.val e : ℝ) : EReal) := by
  unfold rowR
  rw [dif_pos n.isLt]
  exact hx _

/-- The 128 lanes of head `h` in row `n`. -/
def rowE (x : FVec Ideal Cert.AttnRefIdeal.S16x4096x1024 .bf16) (b : Fin 16) (h : Fin 8) (n : ℕ) (e : Fin 128) : EReal :=
  if hn : n < 4096 then x (ix3 b ⟨n, hn⟩ ⟨h.val * 128 + e.val, by omega⟩) else 0

theorem rowE_eq (x : FVec Ideal Cert.AttnRefIdeal.S16x4096x1024 .bf16) (b : Fin 16) (h : Fin 8) (n : Fin 4096) (e : Fin 128) :
    x (ix3 b n ⟨h.val * 128 + e.val, by omega⟩) = rowE x b h n.val e := by
  unfold rowE
  rw [dif_pos n.isLt]

/-- The row's largest masked score on one half of a head. -/
def big (q k : FVec Ideal Cert.AttnRefIdeal.S16x4096x1024 .bf16) (b : Fin 16) (h : Fin 8) (a : Fin 2) (r : ℕ) : EReal :=
  tops (Finset.range 4096) fun n => scr (n / 64 ≤ r / 64) (sg (rowE q b h r) (rowE k b h n) a)

/-- The weight of key `n` on one half of a head. -/
def wg (q k : FVec Ideal Cert.AttnRefIdeal.S16x4096x1024 .bf16) (b : Fin 16) (h : Fin 8) (a : Fin 2) (r n : ℕ) : ℝ :=
  wgt (n / 64 ≤ r / 64) (sg (rowE q b h r) (rowE k b h n) a)

/-- The softmax quotient of one half of a head: the weights against the values, over the weights. -/
def quo (q k v : FVec Ideal Cert.AttnRefIdeal.S16x4096x1024 .bf16) (b : Fin 16) (h : Fin 8) (a : Fin 2) (r : ℕ) (l : Fin 128) : EReal :=
  quot (big q k b h a r) (∑ n : Fin 4096, wg q k b h a r n.val * rowR v b h n.val l) (∑ n : Fin 4096, wg q k b h a r n.val)

/-- The softmax weight of key `j` on one half of a head. -/
def prb (q k : FVec Ideal Cert.AttnRefIdeal.S16x4096x1024 .bf16) (b : Fin 16) (h : Fin 8) (a : Fin 2) (r : ℕ) (j : Fin 4096) : EReal :=
  quot (big q k b h a r) (wg q k b h a r j.val) (∑ n : Fin 4096, wg q k b h a r n.val)

/-- A row of zeros and infinities is normalised to zeros. -/
theorem nrm_inf (o g : Fin 128 → EReal) (h : ∀ x, Inf (o x)) (l : Fin 128) : nrm o g l = 0 := by
  unfold nrm
  by_cases h0 : o l = 0
  · rw [h0, zero_mul, zero_mul, zero_mul]
  · have e128 : ∃ z : ℝ, 0 < z ∧ Ideal.ofBits FTy.f32 1124073472#32 = (z : EReal) := by
      refine ⟨8388608 * (2 ^ 16)⁻¹, by norm_num, ?_⟩
      rw [EReal.coe_mul]
      simp [Ideal.ofBits, Ideal.ieee]
    have eeps : ∃ z : ℝ, Ideal.ofBits FTy.f32 897988541#32 = (z : EReal) := by
      refine ⟨8796093 * (2 ^ 43)⁻¹, ?_⟩
      rw [EReal.coe_mul]
      simp [Ideal.ofBits, Ideal.ieee]
    obtain ⟨z, hz, ez⟩ := e128
    obtain ⟨y, ey⟩ := eeps
    have ed : Ideal.div ⊤ (z : EReal) = ⊤ := by
      unfold Ideal.div
      rw [if_neg (by exact_mod_cast hz.ne'), ← EReal.coe_inv, EReal.top_mul_coe_of_pos (inv_pos.2 hz)]
    have er : Ideal.rsqrt ⊤ = 0 := rfl
    rw [sq_top o h l h0, ez, ey, ed, EReal.top_add_coe, er, mul_zero, zero_mul, zero_mul]

/-- Normalised, the values weighed by the difference of the two softmax maps are the difference of the two weighed sums. -/
theorem nrm_mix (q k v : FVec Ideal Cert.AttnRefIdeal.S16x4096x1024 .bf16) (lr : ℝ) (b : Fin 16) (h : Fin 8) (r : ℕ) (g : Fin 128 → EReal) (l : Fin 128) :
    nrm (fun x => ∑ j : Fin 4096, ((rowR v b h j.val x : ℝ) : EReal) * (prb q k b h 0 r j - (lr : EReal) * prb q k b h 1 r j)) g l
      = nrm (fun x => quo q k v b h 0 r x - (lr : EReal) * quo q k v b h 1 r x) g l := by
  unfold prb quo
  rcases quot_cases (big q k b h 0 r) (big q k b h 1 r) lr (∑ n : Fin 4096, wg q k b h 0 r n.val) (∑ n : Fin 4096, wg q k b h 1 r n.val) with ⟨l1, e⟩ | ⟨C, hC, e⟩
  · simp only [e]
    refine congrArg (fun o => nrm o g l) (funext fun x => ?_)
    exact diff_row (fun j : Fin 4096 => wg q k b h 0 r j.val) (fun j : Fin 4096 => wg q k b h 1 r j.val) (fun j : Fin 4096 => rowR v b h j.val x) _ _ l1
  · simp only [e]
    rw [nrm_inf _ _ (fun x => inf_sum _ _ fun j => inf_mul _ hC), nrm_inf _ _ (fun _ => Or.inr hC)]

section Ref
open Cert.Proof.AttnR

theorem dots_eq (q k : FVec Ideal Cert.AttnRefIdeal.S16x4096x1024 .bf16) (b : Fin 16) (h : Fin 8) (a : Fin 2) (r j : Fin 4096) :
    dots q k (ix5 b h a r j) = sg (rowE q b h r.val) (rowE k b h j.val) a := by
  rw [dots_at]
  unfold sg
  refine Finset.sum_congr rfl fun e _ => ?_
  have ec : col h a e = ⟨h.val * 128 + (lane a e).val, by have := (lane a e).isLt; omega⟩ :=
    Fin.ext (by show h.val * 128 + a.val * 64 + e.val = h.val * 128 + (64 * a.val + e.val); omega)
  rw [ec, rowE_eq q, rowE_eq k]

theorem big_eq (q k : FVec Ideal Cert.AttnRefIdeal.S16x4096x1024 .bf16) (b : Fin 16) (h : Fin 8) (a : Fin 2) (r : Fin 4096) :
    Finset.fold max ⊥ (fun x : Fin 4096 => scr (x.val / 64 ≤ r.val / 64) (sg (rowE q b h r.val) (rowE k b h x.val) a)) Finset.univ = big q k b h a r.val := by
  unfold big
  refine eq_of_forall_ge_iff fun c => ?_
  rw [tops_le, tops_le]
  exact ⟨fun h' n hn => h' ⟨n, Finset.mem_range.1 hn⟩ (Finset.mem_univ _), fun h' x _ => h' x.val (Finset.mem_range.2 x.isLt)⟩

theorem probs_eq (q k : FVec Ideal Cert.AttnRefIdeal.S16x4096x1024 .bf16) (b : Fin 16) (h : Fin 8) (a : Fin 2) (r j : Fin 4096) :
    probs (expos (scores q k)) (ix5 b h a r j) = prb q k b h a r.val j := by
  have es : ∀ x : Fin 4096, scores q k (ix5 b h a r x) = scr (x.val / 64 ≤ r.val / 64) (sg (rowE q b h r.val) (rowE k b h x.val) a) := fun x => by
    rw [scores_at, dots_eq]; rfl
  rw [probs_at]
  simp only [expos_at, es]
  rw [big_eq q k b h a r, max_eq_right (bot_le (a := big q k b h a r.val))]
  exact softmax_row (fun x : Fin 4096 => x.val / 64 ≤ r.val / 64) (fun x : Fin 4096 => sg (rowE q b h r.val) (rowE k b h x.val) a) _ (big_eq q k b h a r).symm j

/-- The reference's result at an element. -/
theorem ref_at (q k : FVec Ideal Cert.AttnRefIdeal.S16x4096x1024 .bf16) {v : FVec Ideal Cert.AttnRefIdeal.S16x4096x1024 .bf16} (hv : Reals v)
    (lam : FVec Ideal Cert.AttnRefIdeal.S_ .f32) (lr : ℝ) (hl : lam ix0 = (lr : EReal)) (g : FVec Ideal Cert.AttnRefIdeal.S1x128 .f32)
    (b : Fin 16) (h : Fin 8) (r : Fin 4096) (l : Fin 128) (D : Fin 1024) (hD : D.val = h.val * 128 + l.val) :
    normed (heads (diffs lam (probs (expos (scores q k)))) v) g (ix3 b r D)
      = nrm (fun x => quo q k v b h 0 r.val x - (lr : EReal) * quo q k v b h 1 r.val x) (fun x => g (ix2 0 x)) l := by
  have e1 : (⟨D.val / 128, by omega⟩ : Fin 8) = h := Fin.ext (by show D.val / 128 = h.val; omega)
  have e2 : (⟨D.val % 128, by omega⟩ : Fin 128) = l := Fin.ext (by show D.val % 128 = l.val; omega)
  rw [normed_at, e1, e2, ← nrm_mix]
  simp only [heads_at, diffs_at, probs_eq, rowR_eq hv, hl]
  rfl

end Ref

section Ker
open Cert.AttnIdeal Cert.AttnIdeal.Gen

/-- The kernel's last step at an element: the two halves' quotients, their difference, and the row normalisation. -/
theorem out_at (a s : FVec Ideal S1024x128 .f32) (x : EReal) (g : Vec Ideal S1x128 .f32) (r : Fin 512) (l : Fin 128) :
    k0_pay1 (k0_pay35 a s x g) (ix3 0 r l)
      = nrm (fun d => Ideal.div (a (ix2 ⟨r.val, by omega⟩ d)) (s (ix2 ⟨r.val, by omega⟩ d))
          - x * Ideal.div (a (ix2 ⟨512 + r.val, by omega⟩ d)) (s (ix2 ⟨512 + r.val, by omega⟩ d))) (fun d => g (ix2 0 d)) l := by
  pointwise [k0_pay1, k0_pay35]
  rfl

/-- The kernel's block at an element, from the rows its windows hold. -/
theorem ker_at (i : grid0.Coords) (x0 : Vec Ideal S1x1 .f32) (x1 : Vec Ideal S1x512x128 .bf16) (x2 x3 : Vec Ideal S1x4096x128 .bf16) (x4 : Vec Ideal S1x128 .f32)
    (q k : FVec Ideal Cert.AttnRefIdeal.S16x4096x1024 .bf16) {v : FVec Ideal Cert.AttnRefIdeal.S16x4096x1024 .bf16} (hv : Reals v) (b : Fin 16) (h : Fin 8)
    (lr : ℝ) (h0 : x0 (ix2 0 0) = (lr : EReal)) (r : Fin 512) (l : Fin 128) (rr : Fin 4096) (hrr : rr.val = 512 * (i 2).val + r.val)
    (h1 : ∀ e : Fin 128, x1 (ix3 0 r e) = q (ix3 b rr ⟨h.val * 128 + e.val, by omega⟩))
    (h2 : ∀ (n : Fin 4096) (e : Fin 128), x2 (ix3 0 n e) = k (ix3 b n ⟨h.val * 128 + e.val, by omega⟩))
    (h3 : ∀ (n : Fin 4096) (e : Fin 128), x3 (ix3 0 n e) = v (ix3 b n ⟨h.val * 128 + e.val, by omega⟩)) :
    outB i x0 x1 x2 x3 x4 (ix3 0 r l)
      = nrm (fun x => quo q k v b h 0 rr.val x - (lr : EReal) * quo q k v b h 1 rr.val x) (fun x => x4 (ix2 0 x)) l := by
  have key : ∀ (R : Fin 1024) (a : Fin 2) (ha : R.val / 512 = a.val) (hR : R.val % 512 = r.val) (d : Fin 128),
      Ideal.div (lastA (k0_pay14 x1) (tileDiag i x2) (tileDiag i x3) (stAt i x1 x2 x3 (k0_t1_loop i).trips) (ix2 R d))
        (lastL (k0_pay14 x1) (tileDiag i x2) (stAt i x1 x2 x3 (k0_t1_loop i).trips) (ix2 R d))
      = quo q k v b h a rr.val d := fun R a ha hR d => by
    have e := quot_row i x1 x2 x3 R (rowE q b h rr.val) (rowE k b h) (rowR v b h)
      (fun e => by
        have er : (⟨R.val % 512, Nat.mod_lt _ (by norm_num)⟩ : Fin 512) = r := Fin.ext hR
        rw [er, h1, rowE_eq q])
      (fun n hn e => by rw [h2 ⟨n, hn⟩, rowE_eq k])
      (fun n hn e => by rw [h3 ⟨n, hn⟩, rowR_eq hv]) d
    have ea : (⟨R.val / 512, by omega⟩ : Fin 2) = a := Fin.ext ha
    rw [e, ea, hR, ← hrr]
    unfold quo
    rw [← Finset.sum_range (fun n => wg q k b h a rr.val n * rowR v b h n d), ← Finset.sum_range (fun n => wg q k b h a rr.val n)]
    rfl
  unfold outB
  rw [out_at, h0]
  simp only [key ⟨r.val, by omega⟩ 0 (Nat.div_eq_of_lt r.isLt) (Nat.mod_eq_of_lt r.isLt),
    key ⟨512 + r.val, by omega⟩ 1 (by show (512 + r.val) / 512 = 1; omega) (by show (512 + r.val) % 512 = r.val; omega)]

end Ker

end Cert.Proof.Attn

end
-- ==== Proof.AttnFinal.lean ====
/-
  The attention kernel's whole result: block by block it is the reference's array.
-/
module

public import proofs.«01_k».proof.Proof.AttnVal
public import Idealize.ShloMosaic.Lib.Pipeline.ValueKit

@[expose] public section

set_option maxRecDepth 16384

noncomputable section

namespace Cert.Proof.Attn

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The reference's result over the kernel's argument arrays. -/
abbrev REF (a0 a1 a2 a3 : FVec Ideal Cert.AttnRefIdeal.S1x64 .f32) (g : FVec Ideal Cert.AttnRefIdeal.S1x128 .f32)
    (q k v : FVec Ideal Cert.AttnRefIdeal.S16x4096x1024 .bf16) : FVec Ideal Cert.AttnRefIdeal.S16x4096x1024 .bf16 :=
  AttnR.normed (AttnR.heads (AttnR.diffs (AttnR.lamS a0 a1 a2 a3) (AttnR.probs (AttnR.expos (AttnR.scores q k)))) v) g

theorem idx : ∀ t : Fin cfg0.N, win0_0.index t = ![0, 0]
    ∧ win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val]
    ∧ win0_4.index t = ![0, 0]
    ∧ win0_5.index t = ![(grid0.coords t 0).val, (grid0.coords t 2).val, (grid0.coords t 1).val] :=
  (by decide +kernel : ∀ t : Fin grid0.N, _)

/-- The mixing weight's offset is a real number. -/
theorem lam_init : ∃ z : ℝ, Ideal.ofBits FTy.f32 1045220557#32 = (z : EReal) := by
  refine ⟨13421773 * (2 ^ 26)⁻¹, ?_⟩
  rw [EReal.coe_mul]
  simp [Ideal.ofBits, Ideal.ieee]

/-- Over real rows the reference's mixing weight is a real number. -/
theorem lam_real {a0 a1 a2 a3 : FVec Ideal Cert.AttnRefIdeal.S1x64 .f32} (h0 : Reals a0) (h1 : Reals a1) (h2 : Reals a2) (h3 : Reals a3) :
    ∃ lr : ℝ, AttnR.lamS a0 a1 a2 a3 ix0 = (lr : EReal) := by
  obtain ⟨z, hz⟩ := lam_init
  have e : ∀ {x y : FVec Ideal Cert.AttnRefIdeal.S1x64 .f32}, Reals x → Reals y → Ideal.exp (∑ i : Fin 64, x (ix2 0 i) * y (ix2 0 i))
      = ((Real.exp (∑ i : Fin 64, (x (ix2 0 i)).toReal * (y (ix2 0 i)).toReal) : ℝ) : EReal) := fun {x y} hx hy => by
    rw [← exp_coe, coe_sum]
    congr 1
    exact Finset.sum_congr rfl fun i _ => by rw [EReal.coe_mul, ← hx, ← hy]
  refine ⟨Real.exp (∑ i : Fin 64, (a0 (ix2 0 i)).toReal * (a1 (ix2 0 i)).toReal) - Real.exp (∑ i : Fin 64, (a2 (ix2 0 i)).toReal * (a3 (ix2 0 i)).toReal) + z, ?_⟩
  rw [AttnR.lam_at, e h0 h1, e h2 h3, hz, EReal.coe_add, EReal.coe_sub]

theorem point (c : Dev nD) (t : Fin cfg0.N)
    (h0 : Reals (φ := .f32) (s := S1x64) (m ((c : Thread nD τ).loc main_arg0))) (h1 : Reals (φ := .f32) (s := S1x64) (m ((c : Thread nD τ).loc main_arg1)))
    (h2 : Reals (φ := .f32) (s := S1x64) (m ((c : Thread nD τ).loc main_arg2))) (h3 : Reals (φ := .f32) (s := S1x64) (m ((c : Thread nD τ).loc main_arg3)))
    (hv : Reals (φ := .bf16) (s := S16x4096x1024) (m ((c : Thread nD τ).loc main_arg7)))
    (r : Fin 512) (l : Fin 128) :
    outB (grid0.coords t) (iblk m c 0 t) (iblk m c 1 t) (iblk m c 2 t) (iblk m c 3 t) (iblk m c 4 t) (ix3 0 r l)
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (ix3 (grid0.coords t 0) ⟨512 * (grid0.coords t 2).val + r.val, by have : (grid0.coords t 2).val < 8 := (grid0.coords t 2).isLt; omega⟩
            ⟨(grid0.coords t 1).val * 128 + l.val, by have : (grid0.coords t 1).val < 8 := (grid0.coords t 1).isLt; omega⟩) := by
  obtain ⟨lr, hlr⟩ := lam_real h0 h1 h2 h3
  have e0 : (iblk m c 0 t : Vec Ideal S1x1 .f32) (ix2 0 0) = (lr : EReal) := by
    rw [← hlr, AttnR.lam_at]
    blk_simp [iblk]
    entry_read
    pointwise
  have e4 : ∀ x, (iblk m c 4 t : Vec Ideal S1x128 .f32) (ix2 0 x) = (m ((c : Thread nD τ).loc main_arg4) : FVec Ideal S1x128 .f32) (ix2 0 x) := fun x => by
    blk_point [iblk, V, idx t]
  have e1 : ∀ e : Fin 128, (iblk m c 1 t : Vec Ideal S1x512x128 .bf16) (ix3 0 r e) = (m ((c : Thread nD τ).loc main_arg5) : FVec Ideal S16x4096x1024 .bf16)
      (ix3 (grid0.coords t 0) ⟨512 * (grid0.coords t 2).val + r.val, by have : (grid0.coords t 2).val < 8 := (grid0.coords t 2).isLt; omega⟩
        ⟨(grid0.coords t 1).val * 128 + e.val, by have : (grid0.coords t 1).val < 8 := (grid0.coords t 1).isLt; omega⟩) := fun e => by
    blk_point [iblk, V, idx t]
  have e2 : ∀ (n : Fin 4096) (e : Fin 128), (iblk m c 2 t : Vec Ideal S1x4096x128 .bf16) (ix3 0 n e) = (m ((c : Thread nD τ).loc main_arg6) : FVec Ideal S16x4096x1024 .bf16)
      (ix3 (grid0.coords t 0) n ⟨(grid0.coords t 1).val * 128 + e.val, by have : (grid0.coords t 1).val < 8 := (grid0.coords t 1).isLt; omega⟩) := fun n e => by
    blk_point [iblk, V, idx t]
  have e3 : ∀ (n : Fin 4096) (e : Fin 128), (iblk m c 3 t : Vec Ideal S1x4096x128 .bf16) (ix3 0 n e) = (m ((c : Thread nD τ).loc main_arg7) : FVec Ideal S16x4096x1024 .bf16)
      (ix3 (grid0.coords t 0) n ⟨(grid0.coords t 1).val * 128 + e.val, by have : (grid0.coords t 1).val < 8 := (grid0.coords t 1).isLt; omega⟩) := fun n e => by
    blk_point [iblk, V, idx t]
  rw [ker_at (grid0.coords t) _ _ _ _ _ (m ((c : Thread nD τ).loc main_arg5)) (m ((c : Thread nD τ).loc main_arg6)) hv (grid0.coords t 0) (grid0.coords t 1) lr e0 r l _ rfl e1 e2 e3]
  refine Eq.trans ?_ (ref_at _ _ hv _ lr hlr _ (grid0.coords t 0) (grid0.coords t 1) _ l _ rfl).symm
  exact congrArg (fun g => nrm _ g l) (funext e4)

/-- The result array after the run. -/
theorem final (c : Dev nD)
    (h0 : Reals (φ := .f32) (s := S1x64) (m ((c : Thread nD τ).loc main_arg0))) (h1 : Reals (φ := .f32) (s := S1x64) (m ((c : Thread nD τ).loc main_arg1)))
    (h2 : Reals (φ := .f32) (s := S1x64) (m ((c : Thread nD τ).loc main_arg2))) (h3 : Reals (φ := .f32) (s := S1x64) (m ((c : Thread nD τ).loc main_arg3)))
    (hv : Reals (φ := .bf16) (s := S16x4096x1024) (m ((c : Thread nD τ).loc main_arg7))) :
    (dats m 0 c).arrAt 5 cfg0.N
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  refine (dats m 0 c).arrAt_eq_of_covers 5 _ (by decide +kernel) fun t _ y => ?_
  blk_simp
  rw [after0_5, outs_eq]
  have hy : (y : S1x512x128.Idx) = ix3 0 (y 1) (y 2) := by
    funext a; fin_cases a
    · exact Subsingleton.elim (α := Fin 1) _ _
    · rfl
    · rfl
  refine Eq.trans (congrArg _ hy) (Eq.trans (point m c t h0 h1 h2 h3 hv (y 1) (y 2)) (congrArg _ ?_))
  blk_ext [idx t]

end Cert.Proof.Attn

end
-- ==== Proof.AttnPre.lean ====
/-
  The precondition of the attention's claim, read: every entry of the arrays it names is a real number.
-/
module

public import proofs.«01_k».proof.Defs
public import Idealize.ShloMosaic.Lib.ReduceAll
public import Idealize.ShloMosaic.Lib.Pointwise
public import Idealize.ShloMosaic.PureOps.Ideal

@[expose] public section

set_option maxRecDepth 16384

noncomputable section

namespace Cert.Proof.Attn

open Idealize.ShloMosaic Idealize.ShloMosaic.TcCoe Idealize.SL.Sem

theorem preFacts : Cert.Pre_finite_inputs.Facts where
  bcast_S_S1x64 := by decide
  reducesTo_S1x64_S_d0_1 := by decide
  h_S_ := by decide
  bitsLt_bf16_f32 := by decide
  bcast_S_S16x4096x1024 := by decide
  reducesTo_S16x4096x1024_S_d0_1_2 := by decide

theorem pos_inf : Ideal.ofBits FTy.f32 2139095040#32 = (⊤ : EReal) := by simp [Ideal.ofBits, Ideal.ieee]

/-- An absolute value below infinity is that of a real number. -/
theorem real_of_abs (x : EReal) (h : Ideal.cmp .olt (max x (-x)) (Ideal.ofBits FTy.f32 2139095040#32) = 1#1) : x = ((EReal.toReal x : ℝ) : EReal) := by
  rw [pos_inf] at h
  induction x using EReal.rec with
  | bot => exfalso; simp [Ideal.cmp] at h
  | top => exfalso; simp [Ideal.cmp] at h
  | coe r => rfl

theorem and_one : ∀ a b : BitVec 1, IntOp.andi a b = 1#1 → a = 1#1 ∧ b = 1#1 := by decide

instance : Subsingleton (Shape.Idx ⟨0, ![]⟩) := ⟨fun a b => funext fun i => i.elim0⟩

open Cert.Pre_finite_inputs in
theorem reals_of_pre [Cert.Pre_finite_inputs.Facts] (a0 a1 a2 a3 : FVec Ideal S1x64 .f32) (a4 : FVec Ideal S1x128 .f32) (a5 a6 a7 : FVec Ideal S16x4096x1024 .bf16)
    (h : Cert.Pre_finite_inputs.fn (F := Ideal) a0 a1 a2 a3 a4 a5 a6 a7 = fun _ => 1#1) :
    (∀ i, a0 i = ((EReal.toReal (a0 i) : ℝ) : EReal)) ∧ (∀ i, a1 i = ((EReal.toReal (a1 i) : ℝ) : EReal))
    ∧ (∀ i, a2 i = ((EReal.toReal (a2 i) : ℝ) : EReal)) ∧ (∀ i, a3 i = ((EReal.toReal (a3 i) : ℝ) : EReal))
    ∧ (∀ i, a7 i = ((EReal.toReal (a7 i) : ℝ) : EReal)) := by
  have e := congrFun h ix0
  obtain ⟨e, e7⟩ := and_one _ _ e
  obtain ⟨e, e3⟩ := and_one _ _ e
  obtain ⟨e, e2⟩ := and_one _ _ e
  obtain ⟨e0, e1⟩ := and_one _ _ e
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i),
    fun i => real_of_abs _ (Host.reduce_andi_all _ _ _ _ _ e7 i)⟩

end Cert.Proof.Attn

end
-- ==== Proof.AttnClaims.lean ====
/-
  The attention's claims: nothing but the mask's constant was renamed, and over finite values and lambda vectors the kernel's array
  is the reference's.
-/
module

public import proofs.«01_k».proof.Defs
public import proofs.«01_k».proof.Proof.AttnFinal
public import proofs.«01_k».proof.Proof.AttnPre
public import proofs.«01_k».proof.Proof.Gen.AttnIdeal.Value
public import proofs.«01_k».proof.Proof.Gen.AttnRefIdeal.Run
public import proofs.«01_k».proof.Proof.Gen.Attn.Frame
public import Idealize.ShloMosaic.Lib.Quiescent

@[expose] public section

set_option maxRecDepth 16384

noncomputable section

namespace Cert.Proof.Attn

open Idealize.ShloMosaic Idealize.ShloMosaic.TcCoe Idealize.SL.Sem

instance attnFacts : Cert.Attn.Facts := Cert.Attn.Gen.facts
instance attnIdealFacts : Cert.AttnIdeal.Facts := Cert.AttnIdeal.Gen.facts
instance attnRefFacts : Cert.AttnRefIdeal.Facts := Cert.AttnRefIdeal.Gen.facts
instance preInst : Cert.Pre_finite_inputs.Facts := preFacts

/-- The reference leaves its arguments as they were, and every counter at zero. -/
theorem frame_ri : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The one renamed constant is the mask's: its name denotes minus infinity. -/
theorem preserves : Cert.preserves_Attn_AttnIdeal :=
  IdealRules.named_const.statement Cert.AttnIdeal.κ "mask" .f32 0xF149F2CA#32 ⊥ rfl

/-- The kernel's result is the reference's, over finite values and lambda vectors. -/
theorem algebraic : Cert.algebraic_AttnIdeal_AttnRefIdeal_pre_finite_inputs := by
  intro m ρ m' ρ' hpre hagree
  refine ⟨_, Cert.AttnIdeal.Value.run_blocks m ρ, ?_⟩
  refine (θ_run Cert.AttnRefIdeal.defs _ _).mono (fun _ h c => ⟨(h c).1.trans ?_, (h c).2⟩) (Cert.AttnRefIdeal.Value.run (F := Ideal) m' ρ')
  obtain ⟨a0, a1, a2, a3, a4, a5, a6, a7⟩ := hagree c
  obtain ⟨h0, h1, h2, h3, hv⟩ := reals_of_pre _ _ _ _ _ _ _ _ (hpre c)
  rw [AttnR.res_eq, a0, a1, a2, a3, a4, a5, a6, a7]
  exact (final m c h0 h1 h2 h3 hv).symm

end Cert.Proof.Attn

end
-- ==== Proof.InProjLin.lean ====
/-
  The combined projection, read at an index: the normalised row of the input against a column of the weights, in the
  kernel's block and in the reference's array.
-/
module

public import proofs.«01_k».proof.Proof.Gen.InProjIdeal.Value
public import proofs.«01_k».proof.Proof.Gen.InProjRefIdeal.Run
public import Idealize.ShloMosaic.Lib.Pipeline.ValueKit
public import Idealize.ShloMosaic.Lib.Pointwise

@[expose] public section

set_option maxRecDepth 16384

noncomputable section

namespace Cert.Proof.InProj

open Idealize.ShloMosaic Idealize.ShloMosaic.TcCoe Idealize.SL.Sem

/-- One entry of the normalised row: the input over its root mean square, times the gain. -/
def nrm (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- One entry of the projection: the normalised row against a column of the weights. -/
def lin (x g w : Fin 1024 → EReal) : EReal := ∑ k : Fin 1024, nrm x g k * w k

section Ker

open Cert.InProjIdeal Cert.InProjIdeal.Gen

variable (x : FVec Ideal S512x1024 .f32) (g : FVec Ideal S1x1024 .f32) (w : FVec Ideal S1024x1024 .bf16) (r : Fin 512) (l : Fin 1024)

/-- The kernel's normalised row. -/
theorem ker_nrm : k0_pay5 (F := Ideal) x g (ix2 r l) = nrm (fun k => x (ix2 r k)) (fun k => g (ix2 0 k)) l := by
  pointwise [k0_pay5, nrm]

theorem ker6 : k0_pay6 (F := Ideal) x g w (ix2 r l) = lin (fun k => x (ix2 r k)) (fun k => g (ix2 0 k)) (fun k => w (ix2 k l)) := by
  pointwise [k0_pay6, lin, ker_nrm]

theorem ker7 : k0_pay7 (F := Ideal) x g w (ix2 r l) = lin (fun k => x (ix2 r k)) (fun k => g (ix2 0 k)) (fun k => w (ix2 k l)) := by
  pointwise [k0_pay7, lin, ker_nrm]

theorem ker2 : k0_pay2 (F := Ideal) (k0_pay5 x g) w (ix2 r l) = lin (fun k => x (ix2 r k)) (fun k => g (ix2 0 k)) (fun k => w (ix2 k l)) := by
  pointwise [k0_pay2, lin, ker_nrm]

theorem ker3 : k0_pay3 (F := Ideal) (k0_pay5 x g) w (ix2 r l) = lin (fun k => x (ix2 r k)) (fun k => g (ix2 0 k)) (fun k => w (ix2 k l)) := by
  pointwise [k0_pay3, lin, ker_nrm]

theorem ker4 : k0_pay4 (F := Ideal) (k0_pay5 x g) w (ix2 r l) = lin (fun k => x (ix2 r k)) (fun k => g (ix2 0 k)) (fun k => w (ix2 k l)) := by
  pointwise [k0_pay4, lin, ker_nrm]

theorem ker14 : k0_pay14 (F := Ideal) (k0_pay5 x g) w (ix2 r l) = lin (fun k => x (ix2 r k)) (fun k => g (ix2 0 k)) (fun k => w (ix2 k l)) := by
  pointwise [k0_pay14, lin, ker_nrm]

theorem ker32 : k0_pay32 (F := Ideal) (k0_pay5 x g) w (ix2 r l) = lin (fun k => x (ix2 r k)) (fun k => g (ix2 0 k)) (fun k => w (ix2 k l)) := by
  pointwise [k0_pay32, lin, ker_nrm]

end Ker

section Ref

open Cert.InProjRefIdeal Cert.InProjRefIdeal.Gen

/-- The reference's normalised input. -/
def HID (x : FVec Ideal S16x4096x1024 .f32) (g : FVec Ideal S1x1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ g shapeCasts_S1x1024_S1024)))

/-- The reference's projection. -/
def PROJ (x : FVec Ideal S16x4096x1024 .f32) (g : FVec Ideal S1x1024 .f32) (w : FVec Ideal S1x1024x7168 .f32) : FVec Ideal S16x4096x7168 .f32 :=
  Host.dotGeneral dot_S16x4096x1024_S1024x7168_S16x4096x7168_2_0_01_1_n_n none (HID x g) (shapeCast _ w shapeCasts_S1x1024x7168_S1024x7168)

theorem hid_at (x : FVec Ideal S16x4096x1024 .f32) (g : FVec Ideal S1x1024 .f32) (b : Fin 16) (s : Fin 4096) (k : Fin 1024) :
    HID x g (ix3 b s k) = nrm (fun k => x (ix3 b s k)) (fun k => g (ix2 0 k)) k := by
  pointwise [HID, nrm]

theorem proj_at (x : FVec Ideal S16x4096x1024 .f32) (g : FVec Ideal S1x1024 .f32) (w : FVec Ideal S1x1024x7168 .f32) (b : Fin 16) (s : Fin 4096) (l : Fin 7168) :
    PROJ x g w (ix3 b s l) = lin (fun k => x (ix3 b s k)) (fun k => g (ix2 0 k)) (fun k => w (ix3 0 k l)) := by
  pointwise [PROJ, lin, hid_at]

end Ref

end Cert.Proof.InProj

end
-- ==== Proof.InProjRope.lean ====
/-
  The normalised and rotated vector of one head half, entry by entry: what the kernel and the reference both compute.
-/
module

public import proofs.«01_k».proof.Proof.InProjLin

@[expose] public section

set_option maxRecDepth 16384

noncomputable section

namespace Cert.Proof.InProj

open Idealize.ShloMosaic Idealize.ShloMosaic.TcCoe Idealize.SL.Sem

/-- One entry of a normalised vector of sixty-four. -/
def yn (p g : Fin 64 → EReal) (d : Fin 64) : EReal :=
  p d * Ideal.rsqrt (Ideal.div (∑ j : Fin 64, p j * p j) (Ideal.ofBits FTy.f32 1115684864#32) + Ideal.ofBits FTy.f32 897988541#32) * g d

/-- One entry of the rotated vector: the first eight entries turn against the next eight, the rest stay. -/
def rope (y : Fin 64 → EReal) (co si : Fin 8 → EReal) (d : Fin 64) : EReal :=
  if h : d.val < 8 then y d * co ⟨d.val, h⟩ - y ⟨8 + d.val, by omega⟩ * si ⟨d.val, h⟩
  else if h' : d.val < 16 then y d * co ⟨d.val - 8, by omega⟩ + y ⟨d.val - 8, by omega⟩ * si ⟨d.val - 8, by omega⟩
  else y d

/-- The angle of a position at one of the eight frequencies. -/
def ang (p : BitVec 32) (j : Fin 8) : EReal :=
  FloatOps.sitofp (F := Ideal) FTy.f32 p * Ideal.exp (Ideal.div (Ideal.ofBits FTy.f32 3243373875#32 * FloatOps.sitofp (F := Ideal) FTy.f32 (BitVec.ofNat 32 j.val)) (Ideal.ofBits FTy.f32 1090519040#32))

/-- A query: a normalised and rotated vector of the projection, times an eighth. -/
def query (p g : Fin 64 → EReal) (a : BitVec 32) (d : Fin 64) : EReal :=
  rope (yn p g) (fun j => Ideal.cos (ang a j)) (fun j => Ideal.sin (ang a j)) d * Ideal.ofBits FTy.f32 1040187392#32

/-- A key: a normalised and rotated vector of the projection. -/
def key (p g : Fin 64 → EReal) (a : BitVec 32) (d : Fin 64) : EReal :=
  rope (yn p g) (fun j => Ideal.cos (ang a j)) (fun j => Ideal.sin (ang a j)) d

end Cert.Proof.InProj

end
-- ==== Proof.InProjChunk.lean ====
/-
  One head of the kernel's queries or keys, read at a lane: the two halves of a hundred and twenty-eight lanes, each normalised by its own
  sixty-four entries and rotated.
-/
module

public import proofs.«01_k».proof.Proof.InProjRope

@[expose] public section

set_option maxRecDepth 16384

noncomputable section

namespace Cert.Proof.InProj

open Cert.InProjIdeal Cert.InProjIdeal.Gen Idealize.ShloMosaic Idealize.ShloMosaic.TcCoe Idealize.SL.Sem

/-- The kernel's table that adds up each half of the lanes: one where the two lanes are of one half. -/
def SEG : FVec Ideal S128x128 .bf16 := k0_pay10 (F := Ideal) (iota .tc S128x128 32 [0] iota_S128x128_d0_w32) 64#32 k0_pay8 k0_pay9

/-- The normalised lanes. -/
def YN (p : FVec Ideal S512x128 .f32) (seg : FVec Ideal S128x128 .bf16) (G : FVec Ideal S1x128 .f32) : FVec Ideal S512x128 .f32 :=
  mulf (mulf p (rsqrt (addf (mulf (matmul dot_S512x128_S128x128_S512x128_1_0_0_1_n_n none (truncf .bf16 (mulf p p) bitsLt_bf16_f32) seg (constant S512x128 .f32 0x00000000#32)) (broadcast S512x128 (Scalar.ofBits .f32 0x3C800000#32 : Ideal .f32))) (broadcast S512x128 (Scalar.ofBits .f32 0x358637BD#32 : Ideal .f32))))) (broadcastTo S512x128 G broadcasts_S1x128_S512x128)

/-- The rotated lanes. -/
def ROT (y cos lo hi : FVec Ideal S512x128 .f32) : FVec Ideal S512x128 .f32 :=
  addf (addf (mulf y cos) (mulf (dynamicRotate 1 120#32 none y rotates_S512x128_d1) lo)) (mulf (dynamicRotate 1 8#32 none y rotates_S512x128_d1) hi)

/-- The tables of one half, from the eight cosines and sines. -/
def cosT (co : Fin 8 → EReal) (d : Fin 64) : EReal :=
  if h : d.val < 8 then co ⟨d.val, h⟩ else if h' : d.val < 16 then co ⟨d.val - 8, by omega⟩ else 1
def loT (si : Fin 8 → EReal) (d : Fin 64) : EReal := if h : d.val < 8 then -si ⟨d.val, h⟩ else 0
def hiT (si : Fin 8 → EReal) (d : Fin 64) : EReal :=
  if h : d.val < 8 then 0 else if h' : d.val < 16 then si ⟨d.val - 8, by omega⟩ else 0

theorem rot_at (y cos lo hi : FVec Ideal S512x128 .f32) (co si : Fin 8 → EReal) (r : Fin 512)
    (hc : ∀ l : Fin 128, cos (ix2 r l) = cosT co ⟨l.val % 64, by omega⟩) (hlo : ∀ l : Fin 128, lo (ix2 r l) = loT si ⟨l.val % 64, by omega⟩)
    (hhi : ∀ l : Fin 128, hi (ix2 r l) = hiT si ⟨l.val % 64, by omega⟩) (l : Fin 128) :
    ROT y cos lo hi (ix2 r l) = rope (fun d => y (ix2 r ⟨l.val / 64 * 64 + d.val, by omega⟩)) co si ⟨l.val % 64, by omega⟩ := by
  have el : (⟨l.val / 64 * 64 + l.val % 64, by omega⟩ : Fin 128) = l := Fin.ext (by dsimp only; omega)
  by_cases h1 : l.val % 64 < 8
  · have e1 : (⟨(l.val + 128 - 120) % 128, by omega⟩ : Fin 128) = ⟨l.val / 64 * 64 + (8 + l.val % 64), by omega⟩ := Fin.ext (by dsimp only; omega)
    pointwise [ROT, rope, hc, hlo, hhi, cosT, loT, hiT, h1, el]
    rw [e1, mul_zero, add_zero, mul_neg, sub_eq_add_neg]
  · by_cases h2 : l.val % 64 < 16
    · have e2 : (⟨(l.val + 128 - 8) % 128, by omega⟩ : Fin 128) = ⟨l.val / 64 * 64 + (l.val % 64 - 8), by omega⟩ := Fin.ext (by dsimp only; omega)
      pointwise [ROT, rope, hc, hlo, hhi, cosT, loT, hiT, h1, h2, el]
      rw [e2, mul_zero, add_zero]
    · pointwise [ROT, rope, hc, hlo, hhi, cosT, loT, hiT, h1, h2, el]
      rw [mul_zero, mul_zero, add_zero, add_zero]

/-- The kernel's floor division of a lane by sixty-four. -/
theorem half_word : ∀ a : Fin 128,
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  decide +kernel

/-- A comparison's bit as a number. -/
theorem bit_word : ∀ u v : Fin 2, (BitVec.setWidth 32 (IntOp.cmpi CmpIPredicate.eq (BitVec.ofNat 32 u.val) (BitVec.ofNat 32 v.val)))
    = if u.val = v.val then 1#32 else 0#32 := by decide +kernel

theorem seg_at (a b : Fin 128) : SEG (ix2 a b) = if a.val / 64 = b.val / 64 then (1 : EReal) else 0 := by
  have hw := bit_word ⟨a.val / 64, by omega⟩ ⟨b.val / 64, by omega⟩
  pointwise [SEG, k0_pay10, k0_pay8, k0_pay9]
  rw [half_word a, half_word b, hw]
  by_cases h : a.val / 64 = b.val / 64
  · simp only [h, if_true]
    show (((1#32 : BitVec 32).toInt : ℝ) : EReal) = 1
    simp
  · simp only [h, if_false]
    show (((0#32 : BitVec 32).toInt : ℝ) : EReal) = 0
    simp

/-- The sum over the lanes of one half. -/
theorem half_sum (f : Fin 128 → EReal) (l : Fin 128) :
    (∑ x : Fin 128, f x * if x.val / 64 = l.val / 64 then (1 : EReal) else 0) = ∑ d : Fin 64, f ⟨l.val / 64 * 64 + d.val, by omega⟩ := by
  have hs := Fin.sum_univ_add (a := 64) (b := 64) (fun x : Fin 128 => f x * if x.val / 64 = l.val / 64 then (1 : EReal) else 0)
  rw [show (∑ x : Fin 128, f x * if x.val / 64 = l.val / 64 then (1 : EReal) else 0) = _ from hs]
  have hl : l.val / 64 = 0 ∨ l.val / 64 = 1 := by omega
  rcases hl with hl | hl
  · have z : ∀ d : Fin 64, (Fin.natAdd 64 d : Fin 128).val / 64 = 1 := fun d => by rw [Fin.val_natAdd]; omega
    have o : ∀ d : Fin 64, (Fin.castAdd 64 d : Fin 128).val / 64 = 0 := fun d => by rw [Fin.val_castAdd]; omega
    simp only [z, o, hl, if_true, one_ne_zero, if_false, mul_zero, mul_one, Finset.sum_const_zero, add_zero]
    exact Finset.sum_congr rfl fun d _ => congrArg f (Fin.ext (by simp))
  · have z : ∀ d : Fin 64, (Fin.natAdd 64 d : Fin 128).val / 64 = 1 := fun d => by rw [Fin.val_natAdd]; omega
    have o : ∀ d : Fin 64, (Fin.castAdd 64 d : Fin 128).val / 64 = 0 := fun d => by rw [Fin.val_castAdd]; omega
    simp only [z, o, hl, if_true, zero_ne_one, if_false, mul_zero, mul_one, Finset.sum_const_zero, zero_add]
    exact Finset.sum_congr rfl fun d _ => congrArg f (Fin.ext (by rw [Fin.val_natAdd]))

/-- Times a sixty-fourth is over sixty-four. -/
theorem mean_word (x : EReal) : x * Ideal.ofBits FTy.f32 1015021568#32 = Ideal.div x (Ideal.ofBits FTy.f32 1115684864#32) := by
  have e : (8388608 : ℝ) * (2 ^ 17)⁻¹ = 64 := by norm_num
  have f : Ideal.ofBits FTy.f32 1115684864#32 = (((8388608 : ℝ) * (2 ^ 17)⁻¹ : ℝ) : EReal) := by
    rw [EReal.coe_mul]
    simp [Ideal.ofBits, Ideal.ieee]
  have e' : (8388608 : ℝ) * (2 ^ 29)⁻¹ = (64 : ℝ)⁻¹ := by norm_num
  have f' : Ideal.ofBits FTy.f32 1015021568#32 = (((8388608 : ℝ) * (2 ^ 29)⁻¹ : ℝ) : EReal) := by
    rw [EReal.coe_mul]
    simp [Ideal.ofBits, Ideal.ieee]
  have h0 : ((64 : ℝ) : EReal) ≠ 0 := by
    rw [Ne, EReal.coe_eq_zero]; norm_num
  rw [f, e, f', e', Ideal.div, if_neg h0, EReal.coe_inv]

theorem yn_at (p : FVec Ideal S512x128 .f32) (G : FVec Ideal S1x128 .f32) (g : Fin 64 → EReal) (hg : ∀ l : Fin 128, G (ix2 0 l) = g ⟨l.val % 64, by omega⟩)
    (r : Fin 512) (l : Fin 128) :
    YN p SEG G (ix2 r l) = yn (fun d => p (ix2 r ⟨l.val / 64 * 64 + d.val, by omega⟩)) g ⟨l.val % 64, by omega⟩ := by
  have el : (⟨l.val / 64 * 64 + l.val % 64, by omega⟩ : Fin 128) = l := Fin.ext (by dsimp only; omega)
  pointwise [YN, yn, seg_at, hg, el]
  rw [half_sum (fun x => p (ix2 r x) * p (ix2 r x)) l, mean_word]

/-- A head's lanes: normalised and rotated. -/
theorem head_at (p : FVec Ideal S512x128 .f32) (G : FVec Ideal S1x128 .f32) (g : Fin 64 → EReal) (hg : ∀ l : Fin 128, G (ix2 0 l) = g ⟨l.val % 64, by omega⟩)
    (cos lo hi : FVec Ideal S512x128 .f32) (co si : Fin 8 → EReal) (r : Fin 512)
    (hc : ∀ l : Fin 128, cos (ix2 r l) = cosT co ⟨l.val % 64, by omega⟩) (hlo : ∀ l : Fin 128, lo (ix2 r l) = loT si ⟨l.val % 64, by omega⟩)
    (hhi : ∀ l : Fin 128, hi (ix2 r l) = hiT si ⟨l.val % 64, by omega⟩) (l : Fin 128) :
    ROT (YN p SEG G) cos lo hi (ix2 r l)
      = rope (yn (fun d => p (ix2 r ⟨l.val / 64 * 64 + d.val, by omega⟩)) g) co si ⟨l.val % 64, by omega⟩ := by
  rw [rot_at (YN p SEG G) cos lo hi co si r hc hlo hhi l]
  refine congrArg (fun y => rope y co si ⟨l.val % 64, by omega⟩) (funext fun d => ?_)
  have h1 : (l.val / 64 * 64 + d.val) / 64 = l.val / 64 := by omega
  have h2 : (l.val / 64 * 64 + d.val) % 64 = d.val := by omega
  rw [yn_at p G g hg]
  simp only [h1, h2]

end Cert.Proof.InProj

end
-- ==== Proof.InProjIn.lean ====
/-
  The blocks the kernel reads, at an index, as entries of the program's own arguments.
-/
module

public import proofs.«01_k».proof.Proof.InProjChunk

@[expose] public section

set_option maxRecDepth 16384

noncomputable section

namespace Cert.Proof.InProj

open Cert.InProjIdeal Cert.InProjIdeal.Gen Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

theorem x_at (c : Dev nD) (t : Fin cfg0.N) (r : Fin 512) (n : Fin 65536) (hn : n.val = t.val * 512 + r.val) (k : Fin 1024) :
    (iblk m c 0 t : Vec Ideal S512x1024 .f32) (ix2 r k)
      = (m ((c : Thread nD τ).loc main_arg0) : FVec Ideal S16x4096x1024 .f32) (ix3 ⟨n.val / 4096, by omega⟩ ⟨n.val % 4096, by omega⟩ k) := by
  blk_simp [iblk]
  entry_read
  pointwise
  blk_ext [idx t]

theorem g_at (c : Dev nD) (t : Fin cfg0.N) (k : Fin 1024) :
    (iblk m c 1 t : Vec Ideal S1x1024 .f32) (ix2 0 k) = (m ((c : Thread nD τ).loc main_arg2) : FVec Ideal S1x1024 .f32) (ix2 0 k) := by
  blk_simp [iblk]
  entry_read
  pointwise
  blk_ext [idx t]

theorem w_at (c : Dev nD) (t : Fin cfg0.N) (k : Fin 1024) (l : Fin 7168) :
    (iblk m c 2 t : Vec Ideal S1024x7168 .bf16) (ix2 k l) = (m ((c : Thread nD τ).loc main_arg3) : FVec Ideal S1x1024x7168 .f32) (ix3 0 k l) := by
  blk_simp [iblk]
  entry_read
  pointwise
  blk_ext [idx t]

theorem qg_at (c : Dev nD) (t : Fin cfg0.N) (l : Fin 128) :
    (iblk m c 3 t : Vec Ideal S1x128 .f32) (ix2 0 l) = (m ((c : Thread nD τ).loc main_arg4) : FVec Ideal S1x64 .f32) (ix2 0 ⟨l.val % 64, by omega⟩) := by
  blk_simp [iblk]
  entry_read
  pointwise
  blk_ext [idx t]

theorem kg_at (c : Dev nD) (t : Fin cfg0.N) (l : Fin 128) :
    (iblk m c 4 t : Vec Ideal S1x128 .f32) (ix2 0 l) = (m ((c : Thread nD τ).loc main_arg5) : FVec Ideal S1x64 .f32) (ix2 0 ⟨l.val % 64, by omega⟩) := by
  blk_simp [iblk]
  entry_read
  pointwise
  blk_ext [idx t]

end Cert.Proof.InProj

end
-- ==== Proof.InProjOut.lean ====
/-
  The values the kernel's stores share, over its blocks.
-/
module

public import proofs.«01_k».proof.Proof.InProjChunk

@[expose] public section

set_option maxRecDepth 16384

noncomputable section

namespace Cert.Proof.InProj

open Cert.InProjIdeal Cert.InProjIdeal.Gen Idealize.ShloMosaic Idealize.ShloMosaic.TcCoe Idealize.SL.Sem

variable (x0 : Vec Ideal S512x1024 .f32) (x1 : Vec Ideal S1x1024 .f32) (x2 : Vec Ideal S1024x7168 .bf16) (x3 x4 : Vec Ideal S1x128 .f32) (x5 x6 x7 : Vec Ideal S512x128 .f32)

theorem p47 : k0_pay47 (F := Ideal) x0 x1 x2 x3 x4 x5 x6 x7 = k0_pay5 x0 x1 := by
  unfold k0_pay47
  simp (disch := decide) only [View.ld_unit_lit']

theorem p49 : k0_pay49 (F := Ideal) x0 x1 x2 x3 x4 x5 x6 x7 = k0_pay11 x5 := by
  unfold k0_pay49
  simp (disch := decide) only [View.ld_unit_lit']

theorem p50 : k0_pay50 (F := Ideal) x0 x1 x2 x3 x4 x5 x6 x7 = k0_pay12 x6 := by
  unfold k0_pay50
  simp (disch := decide) only [View.ld_unit_lit']

theorem p51 : k0_pay51 (F := Ideal) x0 x1 x2 x3 x4 x5 x6 x7 = k0_pay13 x7 := by
  unfold k0_pay51
  simp (disch := decide) only [View.ld_unit_lit']

theorem p53 : k0_pay53 (F := Ideal) x0 x1 x2 x3 x4 x5 x6 x7 = k0_pay15 x3 := by
  unfold k0_pay53
  simp (disch := decide) only [View.ld_unit_lit']

theorem p55 : k0_pay55 (F := Ideal) x0 x1 x2 x3 x4 x5 x6 x7 = k0_pay33 x4 := by
  unfold k0_pay55
  simp (disch := decide) only [View.ld_unit_lit']

theorem p48 : k0_pay48 (F := Ideal) x0 x1 x2 x3 x4 x5 x6 x7 = SEG := rfl

theorem p52 : k0_pay52 (F := Ideal) x0 x1 x2 x3 x4 x5 x6 x7 = k0_pay14 (k0_pay5 x0 x1) (View.ld x2 r0_5) := by
  unfold k0_pay52
  rw [p47]

theorem p54 : k0_pay54 (F := Ideal) x0 x1 x2 x3 x4 x5 x6 x7 = k0_pay32 (k0_pay5 x0 x1) (View.ld x2 r0_7) := by
  unfold k0_pay54
  rw [p47]

end Cert.Proof.InProj

end
-- ==== Proof.InProjFinal.lean ====
/-
  The kernel's five plain slices of the projection, as the reference's.
-/
module

public import proofs.«01_k».proof.Proof.InProjLin
public import proofs.«01_k».proof.Proof.InProjIn
public import proofs.«01_k».proof.Proof.InProjOut

@[expose] public section

set_option maxRecDepth 16384

noncomputable section

namespace Cert.Proof.InProj

open Cert.InProjIdeal Cert.InProjIdeal.Gen Idealize.ShloMosaic Idealize.ShloMosaic.TcCoe Idealize.SL.Sem

/-- The reference's slice of the projection from column 0. -/
def RL0 (P : FVec Ideal Cert.InProjRefIdeal.S16x4096x7168 .f32) : FVec Ideal S65536x1024 .bf16 :=
  truncf .bf16 (shapeCast _ (extractStridedSlice Cert.InProjRefIdeal.S16x4096x1024 ![0, 0, 0] P Cert.InProjRefIdeal.Gen.slices_S16x4096x7168_S16x4096x1024_0_0_0) Cert.InProjRefIdeal.Gen.shapeCasts_S16x4096x1024_S65536x1024) Cert.InProjRefIdeal.Gen.bitsLt_bf16_f32

theorem rl0_at (P : FVec Ideal Cert.InProjRefIdeal.S16x4096x7168 .f32) (n : Fin 65536) (l : Fin 1024) :
    RL0 P (ix2 n l) = P (ix3 ⟨n.val / 4096, by omega⟩ ⟨n.val % 4096, by omega⟩ ⟨0 + l.val, by omega⟩) := by
  pointwise [RL0]

/-- The reference's slice of the projection from column 1024. -/
def RL1024 (P : FVec Ideal Cert.InProjRefIdeal.S16x4096x7168 .f32) : FVec Ideal S65536x1024 .bf16 :=
  truncf .bf16 (shapeCast _ (extractStridedSlice Cert.InProjRefIdeal.S16x4096x1024 ![0, 0, 1024] P Cert.InProjRefIdeal.Gen.slices_S16x4096x7168_S16x4096x1024_0_0_1024) Cert.InProjRefIdeal.Gen.shapeCasts_S16x4096x1024_S65536x1024) Cert.InProjRefIdeal.Gen.bitsLt_bf16_f32

theorem rl1024_at (P : FVec Ideal Cert.InProjRefIdeal.S16x4096x7168 .f32) (n : Fin 65536) (l : Fin 1024) :
    RL1024 P (ix2 n l) = P (ix3 ⟨n.val / 4096, by omega⟩ ⟨n.val % 4096, by omega⟩ ⟨1024 + l.val, by omega⟩) := by
  pointwise [RL1024]

/-- The reference's slice of the projection from column 4096. -/
def RL4096 (P : FVec Ideal Cert.InProjRefIdeal.S16x4096x7168 .f32) : FVec Ideal S65536x1024 .bf16 :=
  truncf .bf16 (shapeCast _ (extractStridedSlice Cert.InProjRefIdeal.S16x4096x1024 ![0, 0, 4096] P Cert.InProjRefIdeal.Gen.slices_S16x4096x7168_S16x4096x1024_0_0_4096) Cert.InProjRefIdeal.Gen.shapeCasts_S16x4096x1024_S65536x1024) Cert.InProjRefIdeal.Gen.bitsLt_bf16_f32

theorem rl4096_at (P : FVec Ideal Cert.InProjRefIdeal.S16x4096x7168 .f32) (n : Fin 65536) (l : Fin 1024) :
    RL4096 P (ix2 n l) = P (ix3 ⟨n.val / 4096, by omega⟩ ⟨n.val % 4096, by omega⟩ ⟨4096 + l.val, by omega⟩) := by
  pointwise [RL4096]

/-- The reference's slice of the projection from column 5120. -/
def RL5120 (P : FVec Ideal Cert.InProjRefIdeal.S16x4096x7168 .f32) : FVec Ideal S65536x1024 .bf16 :=
  truncf .bf16 (shapeCast _ (extractStridedSlice Cert.InProjRefIdeal.S16x4096x1024 ![0, 0, 5120] P Cert.InProjRefIdeal.Gen.slices_S16x4096x7168_S16x4096x1024_0_0_5120) Cert.InProjRefIdeal.Gen.shapeCasts_S16x4096x1024_S65536x1024) Cert.InProjRefIdeal.Gen.bitsLt_bf16_f32

theorem rl5120_at (P : FVec Ideal Cert.InProjRefIdeal.S16x4096x7168 .f32) (n : Fin 65536) (l : Fin 1024) :
    RL5120 P (ix2 n l) = P (ix3 ⟨n.val / 4096, by omega⟩ ⟨n.val % 4096, by omega⟩ ⟨5120 + l.val, by omega⟩) := by
  pointwise [RL5120]

/-- The reference's slice of the projection from column 6144. -/
def RL6144 (P : FVec Ideal Cert.InProjRefIdeal.S16x4096x7168 .f32) : FVec Ideal S65536x1024 .bf16 :=
  truncf .bf16 (shapeCast _ (extractStridedSlice Cert.InProjRefIdeal.S16x4096x1024 ![0, 0, 6144] P Cert.InProjRefIdeal.Gen.slices_S16x4096x7168_S16x4096x1024_0_0_6144) Cert.InProjRefIdeal.Gen.shapeCasts_S16x4096x1024_S65536x1024) Cert.InProjRefIdeal.Gen.bitsLt_bf16_f32

theorem rl6144_at (P : FVec Ideal Cert.InProjRefIdeal.S16x4096x7168 .f32) (n : Fin 65536) (l : Fin 1024) :
    RL6144 P (ix2 n l) = P (ix3 ⟨n.val / 4096, by omega⟩ ⟨n.val % 4096, by omega⟩ ⟨6144 + l.val, by omega⟩) := by
  pointwise [RL6144]

variable (m : (ℓ : Loc nD τ sig) → Buf (Elt Ideal) ℓ)

theorem w0_at (c : Dev nD) (t : Fin cfg0.N) (k l : Fin 1024) :
    (View.ld (iblk m c 2 t) r0_2 : Vec Ideal S1024x1024 .bf16) (ix2 k l) = (m ((c : Thread nD τ).loc main_arg3) : FVec Ideal S1x1024x7168 .f32) (ix3 0 k ⟨0 + l.val, by omega⟩) := by
  refine Eq.trans ?_ (w_at m c t k ⟨0 + l.val, by omega⟩)
  pointwise

theorem point8 (c : Dev nD) (t : Fin cfg0.N) (r : Fin 512) (l : Fin 1024) (n : Fin 65536) (hn : n.val = t.val * 512 + r.val) :
    k0_pay6 (F := Ideal) (iblk m c 0 t) (iblk m c 1 t) (View.ld (iblk m c 2 t) r0_2) (ix2 r l)
      = RL0 (PROJ (m ((c : Thread nD τ).loc main_arg0)) (m ((c : Thread nD τ).loc main_arg2)) (m ((c : Thread nD τ).loc main_arg3))) (ix2 n l) := by
  rw [ker6, rl0_at, proj_at]
  simp only [x_at m c t r n hn, g_at, w0_at]

/-- The result array after the run. -/
theorem final8 (c : Dev nD) :
    (dats m 0 c).arrAt 8 cfg0.N
      = RL0 (PROJ (m ((c : Thread nD τ).loc main_arg0)) (m ((c : Thread nD τ).loc main_arg2)) (m ((c : Thread nD τ).loc main_arg3))) := by
  refine (dats m 0 c).arrAt_eq_of_covers 8 _ (by decide +kernel) fun t _ y => ?_
  blk_simp
  rw [after0_8]
  frame_out
  have hy : (y : S512x1024.Idx) = ix2 (y 0) (y 1) := by
    funext a; fin_cases a <;> rfl
  have ht : t.val < 128 := t.isLt
  have h0 : (y 0).val < 512 := (y 0).isLt
  have e := point8 m c t (y 0) (y 1) ⟨t.val * 512 + (y 0).val, by omega⟩ rfl
  refine Eq.trans (congrArg (k0_pay6 (F := Ideal) (iblk m c 0 t) (iblk m c 1 t) (View.ld (iblk m c 2 t) r0_2)) hy) ?_
  refine Eq.trans e (congrArg (RL0 (PROJ (m ((c : Thread nD τ).loc main_arg0)) (m ((c : Thread nD τ).loc main_arg2)) (m ((c : Thread nD τ).loc main_arg3)))) ?_)
  blk_ext [idx t]

theorem w1024_at (c : Dev nD) (t : Fin cfg0.N) (k l : Fin 1024) :
    (View.ld (iblk m c 2 t) r0_3 : Vec Ideal S1024x1024 .bf16) (ix2 k l) = (m ((c : Thread nD τ).loc main_arg3) : FVec Ideal S1x1024x7168 .f32) (ix3 0 k ⟨1024 + l.val, by omega⟩) := by
  refine Eq.trans ?_ (w_at m c t k ⟨1024 + l.val, by omega⟩)
  pointwise

theorem point9 (c : Dev nD) (t : Fin cfg0.N) (r : Fin 512) (l : Fin 1024) (n : Fin 65536) (hn : n.val = t.val * 512 + r.val) :
    k0_pay7 (F := Ideal) (iblk m c 0 t) (iblk m c 1 t) (View.ld (iblk m c 2 t) r0_3) (ix2 r l)
      = RL1024 (PROJ (m ((c : Thread nD τ).loc main_arg0)) (m ((c : Thread nD τ).loc main_arg2)) (m ((c : Thread nD τ).loc main_arg3))) (ix2 n l) := by
  rw [ker7, rl1024_at, proj_at]
  simp only [x_at m c t r n hn, g_at, w1024_at]

/-- The result array after the run. -/
theorem final9 (c : Dev nD) :
    (dats m 0 c).arrAt 9 cfg0.N
      = RL1024 (PROJ (m ((c : Thread nD τ).loc main_arg0)) (m ((c : Thread nD τ).loc main_arg2)) (m ((c : Thread nD τ).loc main_arg3))) := by
  refine (dats m 0 c).arrAt_eq_of_covers 9 _ (by decide +kernel) fun t _ y => ?_
  blk_simp
  rw [after0_9]
  frame_out
  have hy : (y : S512x1024.Idx) = ix2 (y 0) (y 1) := by
    funext a; fin_cases a <;> rfl
  have ht : t.val < 128 := t.isLt
  have h0 : (y 0).val < 512 := (y 0).isLt
  have e := point9 m c t (y 0) (y 1) ⟨t.val * 512 + (y 0).val, by omega⟩ rfl
  refine Eq.trans (congrArg (k0_pay7 (F := Ideal) (iblk m c 0 t) (iblk m c 1 t) (View.ld (iblk m c 2 t) r0_3)) hy) ?_
  refine Eq.trans e (congrArg (RL1024 (PROJ (m ((c : Thread nD τ).loc main_arg0)) (m ((c : Thread nD τ).loc main_arg2)) (m ((c : Thread nD τ).loc main_arg3)))) ?_)
  blk_ext [idx t]

theorem w4096_at (c : Dev nD) (t : Fin cfg0.N) (k l : Fin 1024) :
    (View.ld (iblk m c 2 t) r0_8 : Vec Ideal S1024x1024 .bf16) (ix2 k l) = (m ((c : Thread nD τ).loc main_arg3) : FVec Ideal S1x1024x7168 .f32) (ix3 0 k ⟨4096 + l.val, by omega⟩) := by
  refine Eq.trans ?_ (w_at m c t k ⟨4096 + l.val, by omega⟩)
  pointwise

theorem point12 (c : Dev nD) (t : Fin cfg0.N) (r : Fin 512) (l : Fin 1024) (n : Fin 65536) (hn : n.val = t.val * 512 + r.val) :
    k0_pay2 (F := Ideal) (k0_pay5 (iblk m c 0 t) (iblk m c 1 t)) (View.ld (iblk m c 2 t) r0_8) (ix2 r l)
      = RL4096 (PROJ (m ((c : Thread nD τ).loc main_arg0)) (m ((c : Thread nD τ).loc main_arg2)) (m ((c : Thread nD τ).loc main_arg3))) (ix2 n l) := by
  rw [ker2, rl4096_at, proj_at]
  simp only [x_at m c t r n hn, g_at, w4096_at]

/-- The result array after the run. -/
theorem final12 (c : Dev nD) :
    (dats m 0 c).arrAt 12 cfg0.N
      = RL4096 (PROJ (m ((c : Thread nD τ).loc main_arg0)) (m ((c : Thread nD τ).loc main_arg2)) (m ((c : Thread nD τ).loc main_arg3))) := by
  refine (dats m 0 c).arrAt_eq_of_covers 12 _ (by decide +kernel) fun t _ y => ?_
  blk_simp
  rw [after0_12]
  frame_out
  rw [p47]
  have hy : (y : S512x1024.Idx) = ix2 (y 0) (y 1) := by
    funext a; fin_cases a <;> rfl
  have ht : t.val < 128 := t.isLt
  have h0 : (y 0).val < 512 := (y 0).isLt
  have e := point12 m c t (y 0) (y 1) ⟨t.val * 512 + (y 0).val, by omega⟩ rfl
  refine Eq.trans (congrArg (k0_pay2 (F := Ideal) (k0_pay5 (iblk m c 0 t) (iblk m c 1 t)) (View.ld (iblk m c 2 t) r0_8)) hy) ?_
  refine Eq.trans e (congrArg (RL4096 (PROJ (m ((c : Thread nD τ).loc main_arg0)) (m ((c : Thread nD τ).loc main_arg2)) (m ((c : Thread nD τ).loc main_arg3)))) ?_)
  blk_ext [idx t]

theorem w5120_at (c : Dev nD) (t : Fin cfg0.N) (k l : Fin 1024) :
    (View.ld (iblk m c 2 t) r0_9 : Vec Ideal S1024x1024 .bf16) (ix2 k l) = (m ((c : Thread nD τ).loc main_arg3) : FVec Ideal S1x1024x7168 .f32) (ix3 0 k ⟨5120 + l.val, by omega⟩) := by
  refine Eq.trans ?_ (w_at m c t k ⟨5120 + l.val, by omega⟩)
  pointwise

theorem point13 (c : Dev nD) (t : Fin cfg0.N) (r : Fin 512) (l : Fin 1024) (n : Fin 65536) (hn : n.val = t.val * 512 + r.val) :
    k0_pay3 (F := Ideal) (k0_pay5 (iblk m c 0 t) (iblk m c 1 t)) (View.ld (iblk m c 2 t) r0_9) (ix2 r l)
      = RL5120 (PROJ (m ((c : Thread nD τ).loc main_arg0)) (m ((c : Thread nD τ).loc main_arg2)) (m ((c : Thread nD τ).loc main_arg3))) (ix2 n l) := by
  rw [ker3, rl5120_at, proj_at]
  simp only [x_at m c t r n hn, g_at, w5120_at]

/-- The result array after the run. -/
theorem final13 (c : Dev nD) :
    (dats m 0 c).arrAt 13 cfg0.N
      = RL5120 (PROJ (m ((c : Thread nD τ).loc main_arg0)) (m ((c : Thread nD τ).loc main_arg2)) (m ((c : Thread nD τ).loc main_arg3))) := by
  refine (dats m 0 c).arrAt_eq_of_covers 13 _ (by decide +kernel) fun t _ y => ?_
  blk_simp
  rw [after0_13]
  frame_out
  rw [p47]
  have hy : (y : S512x1024.Idx) = ix2 (y 0) (y 1) := by
    funext a; fin_cases a <;> rfl
  have ht : t.val < 128 := t.isLt
  have h0 : (y 0).val < 512 := (y 0).isLt
  have e := point13 m c t (y 0) (y 1) ⟨t.val * 512 + (y 0).val, by omega⟩ rfl
  refine Eq.trans (congrArg (k0_pay3 (F := Ideal) (k0_pay5 (iblk m c 0 t) (iblk m c 1 t)) (View.ld (iblk m c 2 t) r0_9)) hy) ?_
  refine Eq.trans e (congrArg (RL5120 (PROJ (m ((c : Thread nD τ).loc main_arg0)) (m ((c : Thread nD τ).loc main_arg2)) (m ((c : Thread nD τ).loc main_arg3)))) ?_)
  blk_ext [idx t]

theorem w6144_at (c : Dev nD) (t : Fin cfg0.N) (k l : Fin 1024) :
    (View.ld (iblk m c 2 t) r0_10 : Vec Ideal S1024x1024 .bf16) (ix2 k l) = (m ((c : Thread nD τ).loc main_arg3) : FVec Ideal S1x1024x7168 .f32) (ix3 0 k ⟨6144 + l.val, by omega⟩) := by
  refine Eq.trans ?_ (w_at m c t k ⟨6144 + l.val, by omega⟩)
  pointwise

theorem point14 (c : Dev nD) (t : Fin cfg0.N) (r : Fin 512) (l : Fin 1024) (n : Fin 65536) (hn : n.val = t.val * 512 + r.val) :
    k0_pay4 (F := Ideal) (k0_pay5 (iblk m c 0 t) (iblk m c 1 t)) (View.ld (iblk m c 2 t) r0_10) (ix2 r l)
      = RL6144 (PROJ (m ((c : Thread nD τ).loc main_arg0)) (m ((c : Thread nD τ).loc main_arg2)) (m ((c : Thread nD τ).loc main_arg3))) (ix2 n l) := by
  rw [ker4, rl6144_at, proj_at]
  simp only [x_at m c t r n hn, g_at, w6144_at]

/-- The result array after the run. -/
theorem final14 (c : Dev nD) :
    (dats m 0 c).arrAt 14 cfg0.N
      = RL6144 (PROJ (m ((c : Thread nD τ).loc main_arg0)) (m ((c : Thread nD τ).loc main_arg2)) (m ((c : Thread nD τ).loc main_arg3))) := by
  refine (dats m 0 c).arrAt_eq_of_covers 14 _ (by decide +kernel) fun t _ y => ?_
  blk_simp
  rw [after0_14]
  frame_out
  rw [p47]
  have hy : (y : S512x1024.Idx) = ix2 (y 0) (y 1) := by
    funext a; fin_cases a <;> rfl
  have ht : t.val < 128 := t.isLt
  have h0 : (y 0).val < 512 := (y 0).isLt
  have e := point14 m c t (y 0) (y 1) ⟨t.val * 512 + (y 0).val, by omega⟩ rfl
  refine Eq.trans (congrArg (k0_pay4 (F := Ideal) (k0_pay5 (iblk m c 0 t) (iblk m c 1 t)) (View.ld (iblk m c 2 t) r0_10)) hy) ?_
  refine Eq.trans e (congrArg (RL6144 (PROJ (m ((c : Thread nD τ).loc main_arg0)) (m ((c : Thread nD τ).loc main_arg2)) (m ((c : Thread nD τ).loc main_arg3)))) ?_)
  blk_ext [idx t]

end Cert.Proof.InProj

end
-- ==== Proof.InProjHeads.lean ====
/-
  The kernel's block of queries and its block of keys, read at an index: eight heads side by side.
-/
module

public import proofs.«01_k».proof.Proof.InProjChunk

@[expose] public section

set_option maxRecDepth 16384

noncomputable section

namespace Cert.Proof.InProj

open Cert.InProjIdeal Cert.InProjIdeal.Gen Idealize.ShloMosaic Idealize.ShloMosaic.TcCoe Idealize.SL.Sem

/-- A head of queries: rotated, times an eighth. -/
def HQ (p : FVec Ideal S512x128 .f32) (seg : FVec Ideal S128x128 .bf16) (G : FVec Ideal S1x128 .f32) (cos lo hi : FVec Ideal S512x128 .f32) : FVec Ideal S512x128 .bf16 :=
  truncf .bf16 (mulf (ROT (YN p seg G) cos lo hi) (broadcast S512x128 (Scalar.ofBits .f32 0x3E000000#32 : Ideal .f32))) bitsLt_bf16_f32

/-- A head of keys: rotated, times one. -/
def HK (p : FVec Ideal S512x128 .f32) (seg : FVec Ideal S128x128 .bf16) (G : FVec Ideal S1x128 .f32) (cos lo hi : FVec Ideal S512x128 .f32) : FVec Ideal S512x128 .bf16 :=
  truncf .bf16 (mulf (ROT (YN p seg G) cos lo hi) (broadcast S512x128 (Scalar.ofBits .f32 0x3F800000#32 : Ideal .f32))) bitsLt_bf16_f32

/-- Eight heads side by side. -/
theorem concat8 (v0 v1 v2 v3 v4 v5 v6 v7 : FVec Ideal S512x128 .bf16) (f : Fin 1024 → EReal) (r : Fin 512)
    (h0 : ∀ j : Fin 128, v0 (ix2 r j) = f ⟨0 + j.val, by omega⟩)
    (h1 : ∀ j : Fin 128, v1 (ix2 r j) = f ⟨128 + j.val, by omega⟩)
    (h2 : ∀ j : Fin 128, v2 (ix2 r j) = f ⟨256 + j.val, by omega⟩)
    (h3 : ∀ j : Fin 128, v3 (ix2 r j) = f ⟨384 + j.val, by omega⟩)
    (h4 : ∀ j : Fin 128, v4 (ix2 r j) = f ⟨512 + j.val, by omega⟩)
    (h5 : ∀ j : Fin 128, v5 (ix2 r j) = f ⟨640 + j.val, by omega⟩)
    (h6 : ∀ j : Fin 128, v6 (ix2 r j) = f ⟨768 + j.val, by omega⟩)
    (h7 : ∀ j : Fin 128, v7 (ix2 r j) = f ⟨896 + j.val, by omega⟩)
    (l : Fin 1024) : k0_pay1 (F := Ideal) v0 v1 v2 v3 v4 v5 v6 v7 (ix2 r l) = f l := by
  have hl : l.val < 1024 := l.isLt
  pointwise [k0_pay1]
  repeat' split
  all_goals first
    | (rw [h0]; exact congrArg f (Fin.ext (by dsimp only; omega)))
    | (rw [h1]; exact congrArg f (Fin.ext (by dsimp only; omega)))
    | (rw [h2]; exact congrArg f (Fin.ext (by dsimp only; omega)))
    | (rw [h3]; exact congrArg f (Fin.ext (by dsimp only; omega)))
    | (rw [h4]; exact congrArg f (Fin.ext (by dsimp only; omega)))
    | (rw [h5]; exact congrArg f (Fin.ext (by dsimp only; omega)))
    | (rw [h6]; exact congrArg f (Fin.ext (by dsimp only; omega)))
    | (rw [h7]; exact congrArg f (Fin.ext (by dsimp only; omega)))

theorem hq_at (p : FVec Ideal S512x128 .f32) (P : Fin 1024 → EReal) (off : Nat) (ho : off % 64 = 0) (hb : off + 128 ≤ 1024) (r : Fin 512)
    (hp : ∀ j : Fin 128, p (ix2 r j) = P ⟨off + j.val, by omega⟩)
    (G : FVec Ideal S1x128 .f32) (g : Fin 64 → EReal) (hg : ∀ l : Fin 128, G (ix2 0 l) = g ⟨l.val % 64, by omega⟩)
    (cos lo hi : FVec Ideal S512x128 .f32) (co si : Fin 8 → EReal)
    (hc : ∀ l : Fin 128, cos (ix2 r l) = cosT co ⟨l.val % 64, by omega⟩) (hlo : ∀ l : Fin 128, lo (ix2 r l) = loT si ⟨l.val % 64, by omega⟩)
    (hhi : ∀ l : Fin 128, hi (ix2 r l) = hiT si ⟨l.val % 64, by omega⟩) (l : Fin 128) :
    HQ p SEG G cos lo hi (ix2 r l)
      = rope (yn (fun d => P ⟨(off + l.val) / 64 * 64 + d.val, by omega⟩) g) co si ⟨(off + l.val) % 64, by omega⟩ * Ideal.ofBits FTy.f32 1040187392#32 := by
  have h1 : (off + l.val) % 64 = l.val % 64 := by omega
  have h2 : ∀ d : Fin 64, (⟨off + (l.val / 64 * 64 + d.val), by omega⟩ : Fin 1024) = ⟨(off + l.val) / 64 * 64 + d.val, by omega⟩ :=
    fun d => Fin.ext (by dsimp only; omega)
  pointwise [HQ]
  rw [head_at p G g hg cos lo hi co si r hc hlo hhi l]
  simp only [hp, h1, h2]

theorem hk_at (p : FVec Ideal S512x128 .f32) (P : Fin 1024 → EReal) (off : Nat) (ho : off % 64 = 0) (hb : off + 128 ≤ 1024) (r : Fin 512)
    (hp : ∀ j : Fin 128, p (ix2 r j) = P ⟨off + j.val, by omega⟩)
    (G : FVec Ideal S1x128 .f32) (g : Fin 64 → EReal) (hg : ∀ l : Fin 128, G (ix2 0 l) = g ⟨l.val % 64, by omega⟩)
    (cos lo hi : FVec Ideal S512x128 .f32) (co si : Fin 8 → EReal)
    (hc : ∀ l : Fin 128, cos (ix2 r l) = cosT co ⟨l.val % 64, by omega⟩) (hlo : ∀ l : Fin 128, lo (ix2 r l) = loT si ⟨l.val % 64, by omega⟩)
    (hhi : ∀ l : Fin 128, hi (ix2 r l) = hiT si ⟨l.val % 64, by omega⟩) (l : Fin 128) :
    HK p SEG G cos lo hi (ix2 r l)
      = rope (yn (fun d => P ⟨(off + l.val) / 64 * 64 + d.val, by omega⟩) g) co si ⟨(off + l.val) % 64, by omega⟩ := by
  have h1 : (off + l.val) % 64 = l.val % 64 := by omega
  have h2 : ∀ d : Fin 64, (⟨off + (l.val / 64 * 64 + d.val), by omega⟩ : Fin 1024) = ⟨(off + l.val) / 64 * 64 + d.val, by omega⟩ :=
    fun d => Fin.ext (by dsimp only; omega)
  pointwise [HK]
  rw [head_at p G g hg cos lo hi co si r hc hlo hhi l]
  simp only [hp, h1, h2]

/-- The kernel's block of queries over the projection. -/
def QB (P : FVec Ideal S512x1024 .f32) (seg : FVec Ideal S128x128 .bf16) (G : FVec Ideal S1x128 .f32) (cos lo hi : FVec Ideal S512x128 .f32) : FVec Ideal S512x1024 .bf16 :=
  k0_pay1 (F := Ideal) (HQ (extractStridedSlice S512x128 ![0, 0] P slices_S512x1024_o0_0_S512x128) seg G cos lo hi) (HQ (extractStridedSlice S512x128 ![0, 128] P slices_S512x1024_o0_128_S512x128) seg G cos lo hi) (HQ (extractStridedSlice S512x128 ![0, 256] P slices_S512x1024_o0_256_S512x128) seg G cos lo hi) (HQ (extractStridedSlice S512x128 ![0, 384] P slices_S512x1024_o0_384_S512x128) seg G cos lo hi) (HQ (extractStridedSlice S512x128 ![0, 512] P slices_S512x1024_o0_512_S512x128) seg G cos lo hi) (HQ (extractStridedSlice S512x128 ![0, 640] P slices_S512x1024_o0_640_S512x128) seg G cos lo hi) (HQ (extractStridedSlice S512x128 ![0, 768] P slices_S512x1024_o0_768_S512x128) seg G cos lo hi) (HQ (extractStridedSlice S512x128 ![0, 896] P slices_S512x1024_o0_896_S512x128) seg G cos lo hi)

/-- The kernel's block of keys over the projection. -/
def KB (P : FVec Ideal S512x1024 .f32) (seg : FVec Ideal S128x128 .bf16) (G : FVec Ideal S1x128 .f32) (cos lo hi : FVec Ideal S512x128 .f32) : FVec Ideal S512x1024 .bf16 :=
  k0_pay1 (F := Ideal) (HK (extractStridedSlice S512x128 ![0, 0] P slices_S512x1024_o0_0_S512x128) seg G cos lo hi) (HK (extractStridedSlice S512x128 ![0, 128] P slices_S512x1024_o0_128_S512x128) seg G cos lo hi) (HK (extractStridedSlice S512x128 ![0, 256] P slices_S512x1024_o0_256_S512x128) seg G cos lo hi) (HK (extractStridedSlice S512x128 ![0, 384] P slices_S512x1024_o0_384_S512x128) seg G cos lo hi) (HK (extractStridedSlice S512x128 ![0, 512] P slices_S512x1024_o0_512_S512x128) seg G cos lo hi) (HK (extractStridedSlice S512x128 ![0, 640] P slices_S512x1024_o0_640_S512x128) seg G cos lo hi) (HK (extractStridedSlice S512x128 ![0, 768] P slices_S512x1024_o0_768_S512x128) seg G cos lo hi) (HK (extractStridedSlice S512x128 ![0, 896] P slices_S512x1024_o0_896_S512x128) seg G cos lo hi)

/-- The kernel's own pieces of the queries are these heads. -/
theorem q_pieces (v16 : FVec Ideal S512x1024 .bf16) (seg : FVec Ideal S128x128 .bf16) (c l h : FVec Ideal S512x128 .f32) (w : FVec Ideal S1024x1024 .bf16) (G : FVec Ideal S1x128 .f32) :
    k0_pay31 (F := Ideal) (k0_pay16 v16 seg (k0_pay11 c) l h w G) (k0_pay18 (k0_pay11 c) (k0_pay12 l) (k0_pay13 h) (k0_pay17 v16 seg w G))
      (k0_pay19 seg (k0_pay11 c) (k0_pay12 l) (k0_pay13 h) (k0_pay14 v16 w) (k0_pay15 G))
      (k0_pay23 (k0_pay13 h) (k0_pay20 seg (k0_pay14 v16 w) (k0_pay15 G)) (k0_pay21 seg (k0_pay11 c) (k0_pay14 v16 w) (k0_pay15 G)) (k0_pay22 seg (k0_pay12 l) (k0_pay14 v16 w) (k0_pay15 G)))
      (k0_pay24 seg (k0_pay11 c) (k0_pay12 l) (k0_pay13 h) (k0_pay14 v16 w) (k0_pay15 G))
      (k0_pay28 (k0_pay26 seg (k0_pay11 c) (k0_pay12 l) (k0_pay14 v16 w) (k0_pay15 G)) (k0_pay27 seg (k0_pay13 h) (k0_pay14 v16 w) (k0_pay15 G)))
      (k0_pay29 seg (k0_pay11 c) (k0_pay12 l) (k0_pay13 h) (k0_pay14 v16 w) (k0_pay15 G))
      (k0_pay30 seg (k0_pay11 c) (k0_pay12 l) (k0_pay13 h) (k0_pay14 v16 w) (k0_pay15 G))
      = QB (k0_pay14 v16 w) seg (k0_pay15 G) (k0_pay11 c) (k0_pay12 l) (k0_pay13 h) := rfl

/-- The kernel's own pieces of the keys are these heads. -/
theorem k_pieces (v16 : FVec Ideal S512x1024 .bf16) (seg : FVec Ideal S128x128 .bf16) (c l h : FVec Ideal S512x128 .f32) (w : FVec Ideal S1024x1024 .bf16) (G : FVec Ideal S1x128 .f32) :
    k0_pay1 (F := Ideal) (k0_pay34 v16 seg (k0_pay11 c) (k0_pay12 l) (k0_pay13 h) w G)
      (k0_pay37 (k0_pay12 l) (k0_pay13 h) (k0_pay35 v16 seg w G) (k0_pay36 v16 seg (k0_pay11 c) w G))
      (k0_pay38 seg (k0_pay11 c) (k0_pay12 l) (k0_pay13 h) (k0_pay32 v16 w) (k0_pay33 G))
      (k0_pay41 (k0_pay13 h) (k0_pay39 seg (k0_pay32 v16 w) (k0_pay33 G)) (k0_pay40 seg (k0_pay11 c) (k0_pay12 l) (k0_pay32 v16 w) (k0_pay33 G)))
      (k0_pay42 seg (k0_pay11 c) (k0_pay12 l) (k0_pay13 h) (k0_pay32 v16 w) (k0_pay33 G))
      (k0_pay44 (k0_pay43 seg (k0_pay11 c) (k0_pay12 l) (k0_pay13 h) (k0_pay32 v16 w) (k0_pay33 G)))
      (k0_pay45 seg (k0_pay11 c) (k0_pay12 l) (k0_pay13 h) (k0_pay32 v16 w) (k0_pay33 G))
      (k0_pay46 seg (k0_pay11 c) (k0_pay12 l) (k0_pay13 h) (k0_pay32 v16 w) (k0_pay33 G))
      = KB (k0_pay32 v16 w) seg (k0_pay33 G) (k0_pay11 c) (k0_pay12 l) (k0_pay13 h) := rfl

theorem qb_at (P : FVec Ideal S512x1024 .f32) (r : Fin 512) (G : FVec Ideal S1x128 .f32) (g : Fin 64 → EReal) (hg : ∀ l : Fin 128, G (ix2 0 l) = g ⟨l.val % 64, by omega⟩)
    (cos lo hi : FVec Ideal S512x128 .f32) (co si : Fin 8 → EReal)
    (hc : ∀ l : Fin 128, cos (ix2 r l) = cosT co ⟨l.val % 64, by omega⟩) (hlo : ∀ l : Fin 128, lo (ix2 r l) = loT si ⟨l.val % 64, by omega⟩)
    (hhi : ∀ l : Fin 128, hi (ix2 r l) = hiT si ⟨l.val % 64, by omega⟩) (l : Fin 1024) :
    QB P SEG G cos lo hi (ix2 r l)
      = rope (yn (fun d => P (ix2 r ⟨l.val / 64 * 64 + d.val, by omega⟩)) g) co si ⟨l.val % 64, by omega⟩ * Ideal.ofBits FTy.f32 1040187392#32 := by
  unfold QB
  refine concat8 _ _ _ _ _ _ _ _ (fun l : Fin 1024 => rope (yn (fun d => P (ix2 r ⟨l.val / 64 * 64 + d.val, by omega⟩)) g) co si ⟨l.val % 64, by omega⟩ * Ideal.ofBits FTy.f32 1040187392#32) r
    (fun j => hq_at _ (fun k => P (ix2 r k)) 0 rfl (by omega) r (fun j => by pointwise) G g hg cos lo hi co si hc hlo hhi j) (fun j => hq_at _ (fun k => P (ix2 r k)) 128 rfl (by omega) r (fun j => by pointwise) G g hg cos lo hi co si hc hlo hhi j) (fun j => hq_at _ (fun k => P (ix2 r k)) 256 rfl (by omega) r (fun j => by pointwise) G g hg cos lo hi co si hc hlo hhi j) (fun j => hq_at _ (fun k => P (ix2 r k)) 384 rfl (by omega) r (fun j => by pointwise) G g hg cos lo hi co si hc hlo hhi j) (fun j => hq_at _ (fun k => P (ix2 r k)) 512 rfl (by omega) r (fun j => by pointwise) G g hg cos lo hi co si hc hlo hhi j) (fun j => hq_at _ (fun k => P (ix2 r k)) 640 rfl (by omega) r (fun j => by pointwise) G g hg cos lo hi co si hc hlo hhi j) (fun j => hq_at _ (fun k => P (ix2 r k)) 768 rfl (by omega) r (fun j => by pointwise) G g hg cos lo hi co si hc hlo hhi j) (fun j => hq_at _ (fun k => P (ix2 r k)) 896 rfl (by omega) r (fun j => by pointwise) G g hg cos lo hi co si hc hlo hhi j) l

theorem kb_at (P : FVec Ideal S512x1024 .f32) (r : Fin 512) (G : FVec Ideal S1x128 .f32) (g : Fin 64 → EReal) (hg : ∀ l : Fin 128, G (ix2 0 l) = g ⟨l.val % 64, by omega⟩)
    (cos lo hi : FVec Ideal S512x128 .f32) (co si : Fin 8 → EReal)
    (hc : ∀ l : Fin 128, cos (ix2 r l) = cosT co ⟨l.val % 64, by omega⟩) (hlo : ∀ l : Fin 128, lo (ix2 r l) = loT si ⟨l.val % 64, by omega⟩)
    (hhi : ∀ l : Fin 128, hi (ix2 r l) = hiT si ⟨l.val % 64, by omega⟩) (l : Fin 1024) :
    KB P SEG G cos lo hi (ix2 r l)
      = rope (yn (fun d => P (ix2 r ⟨l.val / 64 * 64 + d.val, by omega⟩)) g) co si ⟨l.val % 64, by omega⟩ := by
  unfold KB
  refine concat8 _ _ _ _ _ _ _ _ (fun l : Fin 1024 => rope (yn (fun d => P (ix2 r ⟨l.val / 64 * 64 + d.val, by omega⟩)) g) co si ⟨l.val % 64, by omega⟩) r
    (fun j => hk_at _ (fun k => P (ix2 r k)) 0 rfl (by omega) r (fun j => by pointwise) G g hg cos lo hi co si hc hlo hhi j) (fun j => hk_at _ (fun k => P (ix2 r k)) 128 rfl (by omega) r (fun j => by pointwise) G g hg cos lo hi co si hc hlo hhi j) (fun j => hk_at _ (fun k => P (ix2 r k)) 256 rfl (by omega) r (fun j => by pointwise) G g hg cos lo hi co si hc hlo hhi j) (fun j => hk_at _ (fun k => P (ix2 r k)) 384 rfl (by omega) r (fun j => by pointwise) G g hg cos lo hi co si hc hlo hhi j) (fun j => hk_at _ (fun k => P (ix2 r k)) 512 rfl (by omega) r (fun j => by pointwise) G g hg cos lo hi co si hc hlo hhi j) (fun j => hk_at _ (fun k => P (ix2 r k)) 640 rfl (by omega) r (fun j => by pointwise) G g hg cos lo hi co si hc hlo hhi j) (fun j => hk_at _ (fun k => P (ix2 r k)) 768 rfl (by omega) r (fun j => by pointwise) G g hg cos lo hi co si hc hlo hhi j) (fun j => hk_at _ (fun k => P (ix2 r k)) 896 rfl (by omega) r (fun j => by pointwise) G g hg cos lo hi co si hc hlo hhi j) l

end Cert.Proof.InProj

end
-- ==== Proof.InProjRefQK.lean ====
/-
  The reference's queries and keys, read at an index.
-/
module

public import proofs.«01_k».proof.Proof.InProjRope

@[expose] public section

set_option maxRecDepth 16384

noncomputable section

namespace Cert.Proof.InProj

open Cert.InProjRefIdeal Cert.InProjRefIdeal.Gen Idealize.ShloMosaic Idealize.ShloMosaic.TcCoe Idealize.SL.Sem

/-- The reference's normalised vectors. -/
def NQ (P : FVec Ideal S16x4096x8x2x64 .f32) (G : FVec Ideal S1x64 .f32) : FVec Ideal S16x4096x8x2x64 .f32 :=
  mulf (mulf P (broadcastInDim S16x4096x8x2x64 ![0, 1, 2, 3, 4] bcast_S16x4096x8x2x1_S16x4096x8x2x64_0_1_2_3_4 (Host.rsqrt (addf (Host.divf (broadcastInDim S16x4096x8x2x1 ![0, 1, 2, 3] bcast_S16x4096x8x2_S16x4096x8x2x1_0_1_2_3 (Host.reduceAdd (mulf P P) (constant S_ .f32 0x00000000#32) reducesTo_S16x4096x8x2x64_S16x4096x8x2_d4 h_S_)) (broadcastInDim S16x4096x8x2x1 ![] bcast_S_S16x4096x8x2x1 (constant S_ .f32 0x42800000#32))) (broadcastInDim S16x4096x8x2x1 ![] bcast_S_S16x4096x8x2x1 (constant S_ .f32 0x358637BD#32)))))) (broadcastInDim S16x4096x8x2x64 ![0, 1, 2, 3, 4] bcast_S1x1x1x1x64_S16x4096x8x2x64_0_1_2_3_4 (broadcastInDim S1x1x1x1x64 ![4] bcast_S64_S1x1x1x1x64_4 (shapeCast _ G shapeCasts_S1x64_S64)))

/-- The reference's angles. -/
def ANG (A1 : IVec S16x4096 32) : FVec Ideal S16x4096x8 .f32 :=
  mulf (broadcastInDim S16x4096x8 ![0, 1, 2] bcast_S16x4096x1_S16x4096x8_0_1_2 (broadcastInDim S16x4096x1 ![0, 1] bcast_S16x4096_S16x4096x1_0_1 (sitofp .f32 A1))) (broadcastInDim S16x4096x8 ![0, 1, 2] bcast_S1x1x8_S16x4096x8_0_1_2 (broadcastInDim S1x1x8 ![2] bcast_S8_S1x1x8_2 (Host.exp (Host.divf (mulf (broadcastInDim S8 ![] bcast_S_S8 (constant S_ .f32 0xC151F533#32)) (sitofp .f32 (iotaInDim S8 32 0))) (broadcastInDim S8 ![] bcast_S_S8 (constant S_ .f32 0x41000000#32))))))

/-- The reference's rotation. -/
def ROPE (y : FVec Ideal S16x4096x8x2x64 .f32) (co si : FVec Ideal S16x4096x8 .f32) : FVec Ideal S16x4096x8x2x64 .f32 :=
  concatenate S16x4096x8x2x64 4 [⟨S16x4096x8x2x16, (concatenate S16x4096x8x2x16 4 [⟨S16x4096x8x2x8, (subf (mulf (extractStridedSlice S16x4096x8x2x8 ![0, 0, 0, 0, 0] (extractStridedSlice S16x4096x8x2x16 ![0, 0, 0, 0, 0] y slices_S16x4096x8x2x64_S16x4096x8x2x16_0_0_0_0_0) slices_S16x4096x8x2x16_S16x4096x8x2x8_0_0_0_0_0) (broadcastInDim S16x4096x8x2x8 ![0, 1, 2, 3, 4] bcast_S16x4096x1x1x8_S16x4096x8x2x8_0_1_2_3_4 (broadcastInDim S16x4096x1x1x8 ![0, 1, 4] bcast_S16x4096x8_S16x4096x1x1x8_0_1_4 co))) (mulf (extractStridedSlice S16x4096x8x2x8 ![0, 0, 0, 0, 8] (extractStridedSlice S16x4096x8x2x16 ![0, 0, 0, 0, 0] y slices_S16x4096x8x2x64_S16x4096x8x2x16_0_0_0_0_0) slices_S16x4096x8x2x16_S16x4096x8x2x8_0_0_0_0_8) (broadcastInDim S16x4096x8x2x8 ![0, 1, 2, 3, 4] bcast_S16x4096x1x1x8_S16x4096x8x2x8_0_1_2_3_4 (broadcastInDim S16x4096x1x1x8 ![0, 1, 4] bcast_S16x4096x8_S16x4096x1x1x8_0_1_4 si))))⟩, ⟨S16x4096x8x2x8, (addf (mulf (extractStridedSlice S16x4096x8x2x8 ![0, 0, 0, 0, 8] (extractStridedSlice S16x4096x8x2x16 ![0, 0, 0, 0, 0] y slices_S16x4096x8x2x64_S16x4096x8x2x16_0_0_0_0_0) slices_S16x4096x8x2x16_S16x4096x8x2x8_0_0_0_0_8) (broadcastInDim S16x4096x8x2x8 ![0, 1, 2, 3, 4] bcast_S16x4096x1x1x8_S16x4096x8x2x8_0_1_2_3_4 (broadcastInDim S16x4096x1x1x8 ![0, 1, 4] bcast_S16x4096x8_S16x4096x1x1x8_0_1_4 co))) (mulf (extractStridedSlice S16x4096x8x2x8 ![0, 0, 0, 0, 0] (extractStridedSlice S16x4096x8x2x16 ![0, 0, 0, 0, 0] y slices_S16x4096x8x2x64_S16x4096x8x2x16_0_0_0_0_0) slices_S16x4096x8x2x16_S16x4096x8x2x8_0_0_0_0_0) (broadcastInDim S16x4096x8x2x8 ![0, 1, 2, 3, 4] bcast_S16x4096x1x1x8_S16x4096x8x2x8_0_1_2_3_4 (broadcastInDim S16x4096x1x1x8 ![0, 1, 4] bcast_S16x4096x8_S16x4096x1x1x8_0_1_4 si))))⟩] concatenates_S16x4096x8x2x8_S16x4096x8x2x8_S16x4096x8x2x16_d4)⟩, ⟨S16x4096x8x2x48, (extractStridedSlice S16x4096x8x2x48 ![0, 0, 0, 0, 16] y slices_S16x4096x8x2x64_S16x4096x8x2x48_0_0_0_0_16)⟩] concatenates_S16x4096x8x2x16_S16x4096x8x2x48_S16x4096x8x2x64_d4

theorem nq_at (P : FVec Ideal S16x4096x8x2x64 .f32) (G : FVec Ideal S1x64 .f32) (b : Fin 16) (s : Fin 4096) (h : Fin 8) (e : Fin 2) (d : Fin 64) :
    NQ P G (ix5 b s h e d) = yn (fun j => P (ix5 b s h e j)) (fun j => G (ix2 0 j)) d := by
  pointwise [NQ, yn]

theorem ang_at (A1 : IVec S16x4096 32) (b : Fin 16) (s : Fin 4096) (j : Fin 8) : ANG A1 (ix3 b s j) = ang (A1 (ix2 b s)) j := by
  pointwise [ANG, ang]

theorem rope_at (y : FVec Ideal S16x4096x8x2x64 .f32) (co si : FVec Ideal S16x4096x8 .f32) (b : Fin 16) (s : Fin 4096) (h : Fin 8) (e : Fin 2) (d : Fin 64) :
    ROPE y co si (ix5 b s h e d) = rope (fun j => y (ix5 b s h e j)) (fun j => co (ix3 b s j)) (fun j => si (ix3 b s j)) d := by
  by_cases h1 : d.val < 8
  · have h2 : d.val < 16 := by omega
    pointwise [ROPE, rope, h1, h2]
  · by_cases h2 : d.val < 16
    · have e8 : (⟨8 + (d.val - 8), by omega⟩ : Fin 64) = d := Fin.ext (by dsimp only; omega)
      pointwise [ROPE, rope, h1, h2]
      rw [e8]
    · have e16 : (⟨16 + (d.val - 16), by omega⟩ : Fin 64) = d := Fin.ext (by dsimp only; omega)
      pointwise [ROPE, rope, h1, h2]
      rw [e16]

/-- The reference's queries over the projection. -/
def RQ (P : FVec Ideal S16x4096x7168 .f32) (A1 : IVec S16x4096 32) (G : FVec Ideal S1x64 .f32) : FVec Ideal S65536x1024 .bf16 :=
  truncf .bf16 (shapeCast _ (mulf (ROPE (NQ (shapeCast _ (extractStridedSlice S16x4096x1024 ![0, 0, 2048] P slices_S16x4096x7168_S16x4096x1024_0_0_2048) shapeCasts_S16x4096x1024_S16x4096x8x2x64) G) (Host.cos (ANG A1)) (Host.sin (ANG A1))) (broadcastInDim S16x4096x8x2x64 ![] bcast_S_S16x4096x8x2x64 (constant S_ .f32 0x3E000000#32))) shapeCasts_S16x4096x8x2x64_S65536x1024) bitsLt_bf16_f32

/-- The reference's keys over the projection. -/
def RK (P : FVec Ideal S16x4096x7168 .f32) (A1 : IVec S16x4096 32) (G : FVec Ideal S1x64 .f32) : FVec Ideal S65536x1024 .bf16 :=
  truncf .bf16 (shapeCast _ (ROPE (NQ (shapeCast _ (extractStridedSlice S16x4096x1024 ![0, 0, 3072] P slices_S16x4096x7168_S16x4096x1024_0_0_3072) shapeCasts_S16x4096x1024_S16x4096x8x2x64) G) (Host.cos (ANG A1)) (Host.sin (ANG A1))) shapeCasts_S16x4096x8x2x64_S65536x1024) bitsLt_bf16_f32

theorem rq_at (P : FVec Ideal S16x4096x7168 .f32) (A1 : IVec S16x4096 32) (G : FVec Ideal S1x64 .f32) (n : Fin 65536) (l : Fin 1024) :
    RQ P A1 G (ix2 n l)
      = query (fun j => P (ix3 ⟨n.val / 4096, by omega⟩ ⟨n.val % 4096, by omega⟩ ⟨2048 + (l.val / 64 * 64 + j.val), by omega⟩)) (fun j => G (ix2 0 j))
          (A1 (ix2 ⟨n.val / 4096, by omega⟩ ⟨n.val % 4096, by omega⟩)) ⟨l.val % 64, by omega⟩ := by
  have e : ∀ j : Fin 64, (⟨2048 + (l.val / 128 * 128 + l.val / 64 % 2 * 64 + j.val), by omega⟩ : Fin 7168) = ⟨2048 + (l.val / 64 * 64 + j.val), by omega⟩ :=
    fun j => Fin.ext (by dsimp only; omega)
  pointwise [RQ, query, rope_at, nq_at, ang_at]
  simp only [e]

theorem rk_at (P : FVec Ideal S16x4096x7168 .f32) (A1 : IVec S16x4096 32) (G : FVec Ideal S1x64 .f32) (n : Fin 65536) (l : Fin 1024) :
    RK P A1 G (ix2 n l)
      = key (fun j => P (ix3 ⟨n.val / 4096, by omega⟩ ⟨n.val % 4096, by omega⟩ ⟨3072 + (l.val / 64 * 64 + j.val), by omega⟩)) (fun j => G (ix2 0 j))
          (A1 (ix2 ⟨n.val / 4096, by omega⟩ ⟨n.val % 4096, by omega⟩)) ⟨l.val % 64, by omega⟩ := by
  have e : ∀ j : Fin 64, (⟨3072 + (l.val / 128 * 128 + l.val / 64 % 2 * 64 + j.val), by omega⟩ : Fin 7168) = ⟨3072 + (l.val / 64 * 64 + j.val), by omega⟩ :=
    fun j => Fin.ext (by dsimp only; omega)
  pointwise [RK, key, rope_at, nq_at, ang_at]
  simp only [e]

end Cert.Proof.InProj

end
-- ==== Proof.InProjHost.lean ====
/-
  What the host's lines leave in the arrays of cosines and sines.
-/
module

public import proofs.«01_k».proof.Proof.InProjChunk

@[expose] public section

set_option maxRecDepth 16384
set_option maxHeartbeats 2000000

noncomputable section

namespace Cert.Proof.InProj

open Cert.InProjIdeal Cert.InProjIdeal.Gen Idealize.ShloMosaic Idealize.ShloMosaic.TcCoe Idealize.SL.Sem

variable {F : FTy → Type} [FloatOps F]

/-- The host's lines before the table of cosines is put together. -/
abbrev A15 : List (HloOp τ sig (Elt F)) :=
  StableHlo.nullary main_v0 (sitofp .f32 (iotaInDim S8 32 0))
  :: StableHlo.nullary main_cst (constant S_ .f32 0xC151F533#32)
  :: StableHlo.unary main_cst main_v1 (broadcastInDim S8 ![] bcast_S_S8 : (⟨S_, .f32⟩ : BufTy).Contents (Elt F) → (⟨S8, .f32⟩ : BufTy).Contents (Elt F))
  :: StableHlo.binary main_v1 main_v0 main_v2 (mulf : (⟨S8, .f32⟩ : BufTy).Contents (Elt F) → (⟨S8, .f32⟩ : BufTy).Contents (Elt F) → (⟨S8, .f32⟩ : BufTy).Contents (Elt F))
  :: StableHlo.nullary main_cst_0 (constant S_ .f32 0x41000000#32)
  :: StableHlo.unary main_cst_0 main_v3 (broadcastInDim S8 ![] bcast_S_S8 : (⟨S_, .f32⟩ : BufTy).Contents (Elt F) → (⟨S8, .f32⟩ : BufTy).Contents (Elt F))
  :: StableHlo.binary main_v2 main_v3 main_v4 (Host.divf : (⟨S8, .f32⟩ : BufTy).Contents (Elt F) → (⟨S8, .f32⟩ : BufTy).Contents (Elt F) → (⟨S8, .f32⟩ : BufTy).Contents (Elt F))
  :: StableHlo.unary main_v4 main_v5 (Host.exp : (⟨S8, .f32⟩ : BufTy).Contents (Elt F) → (⟨S8, .f32⟩ : BufTy).Contents (Elt F))
  :: StableHlo.unary main_arg1 main_v6 (sitofp .f32 : (⟨S16x4096, .i32⟩ : BufTy).Contents (Elt F) → (⟨S16x4096, .f32⟩ : BufTy).Contents (Elt F))
  :: StableHlo.reshape main_v6 main_v7 (rfl : (.f32 : EltTy) = .f32) shapeCasts_S16x4096_S65536x1
  :: StableHlo.unary main_v5 main_v8 (broadcastInDim S1x8 ![1] bcast_S8_S1x8_1 : (⟨S8, .f32⟩ : BufTy).Contents (Elt F) → (⟨S1x8, .f32⟩ : BufTy).Contents (Elt F))
  :: StableHlo.unary main_v7 main_v9 (broadcastInDim S65536x8 ![0, 1] bcast_S65536x1_S65536x8_0_1 : (⟨S65536x1, .f32⟩ : BufTy).Contents (Elt F) → (⟨S65536x8, .f32⟩ : BufTy).Contents (Elt F))
  :: StableHlo.unary main_v8 main_v10 (broadcastInDim S65536x8 ![0, 1] bcast_S1x8_S65536x8_0_1 : (⟨S1x8, .f32⟩ : BufTy).Contents (Elt F) → (⟨S65536x8, .f32⟩ : BufTy).Contents (Elt F))
  :: StableHlo.binary main_v9 main_v10 main_v11 (mulf : (⟨S65536x8, .f32⟩ : BufTy).Contents (Elt F) → (⟨S65536x8, .f32⟩ : BufTy).Contents (Elt F) → (⟨S65536x8, .f32⟩ : BufTy).Contents (Elt F))
  :: StableHlo.unary main_v11 main_v12 (Host.cos : (⟨S65536x8, .f32⟩ : BufTy).Contents (Elt F) → (⟨S65536x8, .f32⟩ : BufTy).Contents (Elt F))
  :: StableHlo.unary main_v11 main_v13 (Host.sin : (⟨S65536x8, .f32⟩ : BufTy).Contents (Elt F) → (⟨S65536x8, .f32⟩ : BufTy).Contents (Elt F))
  :: StableHlo.nullary main_cst_1 (constant S_ .f32 0x3F800000#32)
  :: StableHlo.unary main_cst_1 main_v14 (broadcastInDim S65536x48 ![] bcast_S_S65536x48 : (⟨S_, .f32⟩ : BufTy).Contents (Elt F) → (⟨S65536x48, .f32⟩ : BufTy).Contents (Elt F))
  :: []

/-- The line that puts it together. -/
abbrev O15 : HloOp τ sig (Elt F) :=
  StableHlo.nary ![main_v12, main_v12, main_v14] main_v15 (fun u => (concatenate S65536x64 1 [⟨S65536x8, (u 0 : (⟨S65536x8, .f32⟩ : BufTy).Contents (Elt F))⟩, ⟨S65536x8, (u 1 : (⟨S65536x8, .f32⟩ : BufTy).Contents (Elt F))⟩, ⟨S65536x48, (u 2 : (⟨S65536x48, .f32⟩ : BufTy).Contents (Elt F))⟩] concatenates_S65536x8_S65536x8_S65536x48_S65536x64_d1 : (⟨S65536x64, .f32⟩ : BufTy).Contents (Elt F)))

/-- The lines after it. -/
abbrev B15 : List (HloOp τ sig (Elt F)) :=
  StableHlo.unary main_v13 main_v16 (Host.negf : (⟨S65536x8, .f32⟩ : BufTy).Contents (Elt F) → (⟨S65536x8, .f32⟩ : BufTy).Contents (Elt F))
  :: StableHlo.nullary main_cst_2 (constant S_ .f32 0x00000000#32)
  :: StableHlo.unary main_cst_2 main_v17 (broadcastInDim S65536x56 ![] bcast_S_S65536x56 : (⟨S_, .f32⟩ : BufTy).Contents (Elt F) → (⟨S65536x56, .f32⟩ : BufTy).Contents (Elt F))
  :: StableHlo.binary main_v16 main_v17 main_v18 ((fun a b => concatenate S65536x64 1 [⟨S65536x8, a⟩, ⟨S65536x56, b⟩] concatenates_S65536x8_S65536x56_S65536x64_d1) : (⟨S65536x8, .f32⟩ : BufTy).Contents (Elt F) → (⟨S65536x56, .f32⟩ : BufTy).Contents (Elt F) → (⟨S65536x64, .f32⟩ : BufTy).Contents (Elt F))
  :: StableHlo.nullary main_cst_3 (constant S_ .f32 0x00000000#32)
  :: StableHlo.unary main_cst_3 main_v19 (broadcastInDim S65536x8 ![] bcast_S_S65536x8 : (⟨S_, .f32⟩ : BufTy).Contents (Elt F) → (⟨S65536x8, .f32⟩ : BufTy).Contents (Elt F))
  :: StableHlo.nullary main_cst_4 (constant S_ .f32 0x00000000#32)
  :: StableHlo.unary main_cst_4 main_v20 (broadcastInDim S65536x48 ![] bcast_S_S65536x48 : (⟨S_, .f32⟩ : BufTy).Contents (Elt F) → (⟨S65536x48, .f32⟩ : BufTy).Contents (Elt F))
  :: StableHlo.nary ![main_v19, main_v13, main_v20] main_v21 (fun u => (concatenate S65536x64 1 [⟨S65536x8, (u 0 : (⟨S65536x8, .f32⟩ : BufTy).Contents (Elt F))⟩, ⟨S65536x8, (u 1 : (⟨S65536x8, .f32⟩ : BufTy).Contents (Elt F))⟩, ⟨S65536x48, (u 2 : (⟨S65536x48, .f32⟩ : BufTy).Contents (Elt F))⟩] concatenates_S65536x8_S65536x8_S65536x48_S65536x64_d1 : (⟨S65536x64, .f32⟩ : BufTy).Contents (Elt F)))
  :: StableHlo.reshape main_v15 main_v22 (rfl : (.f32 : EltTy) = .f32) shapeCasts_S65536x64_S1x65536x1x64
  :: StableHlo.unary main_v22 main_v23 (broadcastInDim S1x65536x2x64 ![0, 1, 2, 3] bcast_S1x65536x1x64_S1x65536x2x64_0_1_2_3 : (⟨S1x65536x1x64, .f32⟩ : BufTy).Contents (Elt F) → (⟨S1x65536x2x64, .f32⟩ : BufTy).Contents (Elt F))
  :: StableHlo.reshape main_v23 main_v24 (rfl : (.f32 : EltTy) = .f32) shapeCasts_S1x65536x2x64_S65536x128
  :: StableHlo.reshape main_v18 main_v25 (rfl : (.f32 : EltTy) = .f32) shapeCasts_S65536x64_S1x65536x1x64
  :: StableHlo.unary main_v25 main_v26 (broadcastInDim S1x65536x2x64 ![0, 1, 2, 3] bcast_S1x65536x1x64_S1x65536x2x64_0_1_2_3 : (⟨S1x65536x1x64, .f32⟩ : BufTy).Contents (Elt F) → (⟨S1x65536x2x64, .f32⟩ : BufTy).Contents (Elt F))
  :: StableHlo.reshape main_v26 main_v27 (rfl : (.f32 : EltTy) = .f32) shapeCasts_S1x65536x2x64_S65536x128
  :: StableHlo.reshape main_v21 main_v28 (rfl : (.f32 : EltTy) = .f32) shapeCasts_S65536x64_S1x65536x1x64
  :: StableHlo.unary main_v28 main_v29 (broadcastInDim S1x65536x2x64 ![0, 1, 2, 3] bcast_S1x65536x1x64_S1x65536x2x64_0_1_2_3 : (⟨S1x65536x1x64, .f32⟩ : BufTy).Contents (Elt F) → (⟨S1x65536x2x64, .f32⟩ : BufTy).Contents (Elt F))
  :: StableHlo.reshape main_v29 main_v30 (rfl : (.f32 : EltTy) = .f32) shapeCasts_S1x65536x2x64_S65536x128
  :: StableHlo.reshape main_arg0 main_v31 (rfl : (.f32 : EltTy) = .f32) shapeCasts_S16x4096x1024_S65536x1024
  :: StableHlo.reshape main_arg2 main_v32 (rfl : (.f32 : EltTy) = .f32) shapeCasts_S1x1024_S1024
  :: StableHlo.reshape main_v32 main_v33 (rfl : (.f32 : EltTy) = .f32) shapeCasts_S1024_S1x1024
  :: StableHlo.reshape main_arg3 main_v34 (rfl : (.f32 : EltTy) = .f32) shapeCasts_S1x1024x7168_S1024x7168
  :: StableHlo.unary main_v34 main_v35 ((truncf .bf16 · bitsLt_bf16_f32) : (⟨S1024x7168, .f32⟩ : BufTy).Contents (Elt F) → (⟨S1024x7168, .bf16⟩ : BufTy).Contents (Elt F))
  :: StableHlo.reshape main_arg4 main_v36 (rfl : (.f32 : EltTy) = .f32) shapeCasts_S1x64_S64
  :: StableHlo.reshape main_v36 main_v37 (rfl : (.f32 : EltTy) = .f32) shapeCasts_S64_S1x64
  :: StableHlo.reshape main_v37 main_v38 (rfl : (.f32 : EltTy) = .f32) shapeCasts_S1x64_S1x1x1x64
  :: StableHlo.unary main_v38 main_v39 (broadcastInDim S1x1x2x64 ![0, 1, 2, 3] bcast_S1x1x1x64_S1x1x2x64_0_1_2_3 : (⟨S1x1x1x64, .f32⟩ : BufTy).Contents (Elt F) → (⟨S1x1x2x64, .f32⟩ : BufTy).Contents (Elt F))
  :: StableHlo.reshape main_v39 main_v40 (rfl : (.f32 : EltTy) = .f32) shapeCasts_S1x1x2x64_S1x128
  :: StableHlo.reshape main_arg5 main_v41 (rfl : (.f32 : EltTy) = .f32) shapeCasts_S1x64_S64
  :: StableHlo.reshape main_v41 main_v42 (rfl : (.f32 : EltTy) = .f32) shapeCasts_S64_S1x64
  :: StableHlo.reshape main_v42 main_v43 (rfl : (.f32 : EltTy) = .f32) shapeCasts_S1x64_S1x1x1x64
  :: StableHlo.unary main_v43 main_v44 (broadcastInDim S1x1x2x64 ![0, 1, 2, 3] bcast_S1x1x1x64_S1x1x2x64_0_1_2_3 : (⟨S1x1x1x64, .f32⟩ : BufTy).Contents (Elt F) → (⟨S1x1x2x64, .f32⟩ : BufTy).Contents (Elt F))
  :: StableHlo.reshape main_v44 main_v45 (rfl : (.f32 : EltTy) = .f32) shapeCasts_S1x1x2x64_S1x128
  :: []

/-- The host's lines before the table of sines that turn upwards is put together. -/
abbrev A21 : List (HloOp τ sig (Elt F)) :=
  StableHlo.nullary main_v0 (sitofp .f32 (iotaInDim S8 32 0))
  :: StableHlo.nullary main_cst (constant S_ .f32 0xC151F533#32)
  :: StableHlo.unary main_cst main_v1 (broadcastInDim S8 ![] bcast_S_S8 : (⟨S_, .f32⟩ : BufTy).Contents (Elt F) → (⟨S8, .f32⟩ : BufTy).Contents (Elt F))
  :: StableHlo.binary main_v1 main_v0 main_v2 (mulf : (⟨S8, .f32⟩ : BufTy).Contents (Elt F) → (⟨S8, .f32⟩ : BufTy).Contents (Elt F) → (⟨S8, .f32⟩ : BufTy).Contents (Elt F))
  :: StableHlo.nullary main_cst_0 (constant S_ .f32 0x41000000#32)
  :: StableHlo.unary main_cst_0 main_v3 (broadcastInDim S8 ![] bcast_S_S8 : (⟨S_, .f32⟩ : BufTy).Contents (Elt F) → (⟨S8, .f32⟩ : BufTy).Contents (Elt F))
  :: StableHlo.binary main_v2 main_v3 main_v4 (Host.divf : (⟨S8, .f32⟩ : BufTy).Contents (Elt F) → (⟨S8, .f32⟩ : BufTy).Contents (Elt F) → (⟨S8, .f32⟩ : BufTy).Contents (Elt F))
  :: StableHlo.unary main_v4 main_v5 (Host.exp : (⟨S8, .f32⟩ : BufTy).Contents (Elt F) → (⟨S8, .f32⟩ : BufTy).Contents (Elt F))
  :: StableHlo.unary main_arg1 main_v6 (sitofp .f32 : (⟨S16x4096, .i32⟩ : BufTy).Contents (Elt F) → (⟨S16x4096, .f32⟩ : BufTy).Contents (Elt F))
  :: StableHlo.reshape main_v6 main_v7 (rfl : (.f32 : EltTy) = .f32) shapeCasts_S16x4096_S65536x1
  :: StableHlo.unary main_v5 main_v8 (broadcastInDim S1x8 ![1] bcast_S8_S1x8_1 : (⟨S8, .f32⟩ : BufTy).Contents (Elt F) → (⟨S1x8, .f32⟩ : BufTy).Contents (Elt F))
  :: StableHlo.unary main_v7 main_v9 (broadcastInDim S65536x8 ![0, 1] bcast_S65536x1_S65536x8_0_1 : (⟨S65536x1, .f32⟩ : BufTy).Contents (Elt F) → (⟨S65536x8, .f32⟩ : BufTy).Contents (Elt F))
  :: StableHlo.unary main_v8 main_v10 (broadcastInDim S65536x8 ![0, 1] bcast_S1x8_S65536x8_0_1 : (⟨S1x8, .f32⟩ : BufTy).Contents (Elt F) → (⟨S65536x8, .f32⟩ : BufTy).Contents (Elt F))
  :: StableHlo.binary main_v9 main_v10 main_v11 (mulf : (⟨S65536x8, .f32⟩ : BufTy).Contents (Elt F) → (⟨S65536x8, .f32⟩ : BufTy).Contents (Elt F) → (⟨S65536x8, .f32⟩ : BufTy).Contents (Elt F))
  :: StableHlo.unary main_v11 main_v12 (Host.cos : (⟨S65536x8, .f32⟩ : BufTy).Contents (Elt F) → (⟨S65536x8, .f32⟩ : BufTy).Contents (Elt F))
  :: StableHlo.unary main_v11 main_v13 (Host.sin : (⟨S65536x8, .f32⟩ : BufTy).Contents (Elt F) → (⟨S65536x8, .f32⟩ : BufTy).Contents (Elt F))
  :: StableHlo.nullary main_cst_1 (constant S_ .f32 0x3F800000#32)
  :: StableHlo.unary main_cst_1 main_v14 (broadcastInDim S65536x48 ![] bcast_S_S65536x48 : (⟨S_, .f32⟩ : BufTy).Contents (Elt F) → (⟨S65536x48, .f32⟩ : BufTy).Contents (Elt F))
  :: StableHlo.nary ![main_v12, main_v12, main_v14] main_v15 (fun u => (concatenate S65536x64 1 [⟨S65536x8, (u 0 : (⟨S65536x8, .f32⟩ : BufTy).Contents (Elt F))⟩, ⟨S65536x8, (u 1 : (⟨S65536x8, .f32⟩ : BufTy).Contents (Elt F))⟩, ⟨S65536x48, (u 2 : (⟨S65536x48, .f32⟩ : BufTy).Contents (Elt F))⟩] concatenates_S65536x8_S65536x8_S65536x48_S65536x64_d1 : (⟨S65536x64, .f32⟩ : BufTy).Contents (Elt F)))
  :: StableHlo.unary main_v13 main_v16 (Host.negf : (⟨S65536x8, .f32⟩ : BufTy).Contents (Elt F) → (⟨S65536x8, .f32⟩ : BufTy).Contents (Elt F))
  :: StableHlo.nullary main_cst_2 (constant S_ .f32 0x00000000#32)
  :: StableHlo.unary main_cst_2 main_v17 (broadcastInDim S65536x56 ![] bcast_S_S65536x56 : (⟨S_, .f32⟩ : BufTy).Contents (Elt F) → (⟨S65536x56, .f32⟩ : BufTy).Contents (Elt F))
  :: StableHlo.binary main_v16 main_v17 main_v18 ((fun a b => concatenate S65536x64 1 [⟨S65536x8, a⟩, ⟨S65536x56, b⟩] concatenates_S65536x8_S65536x56_S65536x64_d1) : (⟨S65536x8, .f32⟩ : BufTy).Contents (Elt F) → (⟨S65536x56, .f32⟩ : BufTy).Contents (Elt F) → (⟨S65536x64, .f32⟩ : BufTy).Contents (Elt F))
  :: StableHlo.nullary main_cst_3 (constant S_ .f32 0x00000000#32)
  :: StableHlo.unary main_cst_3 main_v19 (broadcastInDim S65536x8 ![] bcast_S_S65536x8 : (⟨S_, .f32⟩ : BufTy).Contents (Elt F) → (⟨S65536x8, .f32⟩ : BufTy).Contents (Elt F))
  :: StableHlo.nullary main_cst_4 (constant S_ .f32 0x00000000#32)
  :: StableHlo.unary main_cst_4 main_v20 (broadcastInDim S65536x48 ![] bcast_S_S65536x48 : (⟨S_, .f32⟩ : BufTy).Contents (Elt F) → (⟨S65536x48, .f32⟩ : BufTy).Contents (Elt F))
  :: []

/-- The line that puts it together. -/
abbrev O21 : HloOp τ sig (Elt F) :=
  StableHlo.nary ![main_v19, main_v13, main_v20] main_v21 (fun u => (concatenate S65536x64 1 [⟨S65536x8, (u 0 : (⟨S65536x8, .f32⟩ : BufTy).Contents (Elt F))⟩, ⟨S65536x8, (u 1 : (⟨S65536x8, .f32⟩ : BufTy).Contents (Elt F))⟩, ⟨S65536x48, (u 2 : (⟨S65536x48, .f32⟩ : BufTy).Contents (Elt F))⟩] concatenates_S65536x8_S65536x8_S65536x48_S65536x64_d1 : (⟨S65536x64, .f32⟩ : BufTy).Contents (Elt F)))

/-- The lines after it. -/
abbrev B21 : List (HloOp τ sig (Elt F)) :=
  StableHlo.reshape main_v15 main_v22 (rfl : (.f32 : EltTy) = .f32) shapeCasts_S65536x64_S1x65536x1x64
  :: StableHlo.unary main_v22 main_v23 (broadcastInDim S1x65536x2x64 ![0, 1, 2, 3] bcast_S1x65536x1x64_S1x65536x2x64_0_1_2_3 : (⟨S1x65536x1x64, .f32⟩ : BufTy).Contents (Elt F) → (⟨S1x65536x2x64, .f32⟩ : BufTy).Contents (Elt F))
  :: StableHlo.reshape main_v23 main_v24 (rfl : (.f32 : EltTy) = .f32) shapeCasts_S1x65536x2x64_S65536x128
  :: StableHlo.reshape main_v18 main_v25 (rfl : (.f32 : EltTy) = .f32) shapeCasts_S65536x64_S1x65536x1x64
  :: StableHlo.unary main_v25 main_v26 (broadcastInDim S1x65536x2x64 ![0, 1, 2, 3] bcast_S1x65536x1x64_S1x65536x2x64_0_1_2_3 : (⟨S1x65536x1x64, .f32⟩ : BufTy).Contents (Elt F) → (⟨S1x65536x2x64, .f32⟩ : BufTy).Contents (Elt F))
  :: StableHlo.reshape main_v26 main_v27 (rfl : (.f32 : EltTy) = .f32) shapeCasts_S1x65536x2x64_S65536x128
  :: StableHlo.reshape main_v21 main_v28 (rfl : (.f32 : EltTy) = .f32) shapeCasts_S65536x64_S1x65536x1x64
  :: StableHlo.unary main_v28 main_v29 (broadcastInDim S1x65536x2x64 ![0, 1, 2, 3] bcast_S1x65536x1x64_S1x65536x2x64_0_1_2_3 : (⟨S1x65536x1x64, .f32⟩ : BufTy).Contents (Elt F) → (⟨S1x65536x2x64, .f32⟩ : BufTy).Contents (Elt F))
  :: StableHlo.reshape main_v29 main_v30 (rfl : (.f32 : EltTy) = .f32) shapeCasts_S1x65536x2x64_S65536x128
  :: StableHlo.reshape main_arg0 main_v31 (rfl : (.f32 : EltTy) = .f32) shapeCasts_S16x4096x1024_S65536x1024
  :: StableHlo.reshape main_arg2 main_v32 (rfl : (.f32 : EltTy) = .f32) shapeCasts_S1x1024_S1024
  :: StableHlo.reshape main_v32 main_v33 (rfl : (.f32 : EltTy) = .f32) shapeCasts_S1024_S1x1024
  :: StableHlo.reshape main_arg3 main_v34 (rfl : (.f32 : EltTy) = .f32) shapeCasts_S1x1024x7168_S1024x7168
  :: StableHlo.unary main_v34 main_v35 ((truncf .bf16 · bitsLt_bf16_f32) : (⟨S1024x7168, .f32⟩ : BufTy).Contents (Elt F) → (⟨S1024x7168, .bf16⟩ : BufTy).Contents (Elt F))
  :: StableHlo.reshape main_arg4 main_v36 (rfl : (.f32 : EltTy) = .f32) shapeCasts_S1x64_S64
  :: StableHlo.reshape main_v36 main_v37 (rfl : (.f32 : EltTy) = .f32) shapeCasts_S64_S1x64
  :: StableHlo.reshape main_v37 main_v38 (rfl : (.f32 : EltTy) = .f32) shapeCasts_S1x64_S1x1x1x64
  :: StableHlo.unary main_v38 main_v39 (broadcastInDim S1x1x2x64 ![0, 1, 2, 3] bcast_S1x1x1x64_S1x1x2x64_0_1_2_3 : (⟨S1x1x1x64, .f32⟩ : BufTy).Contents (Elt F) → (⟨S1x1x2x64, .f32⟩ : BufTy).Contents (Elt F))
  :: StableHlo.reshape main_v39 main_v40 (rfl : (.f32 : EltTy) = .f32) shapeCasts_S1x1x2x64_S1x128
  :: StableHlo.reshape main_arg5 main_v41 (rfl : (.f32 : EltTy) = .f32) shapeCasts_S1x64_S64
  :: StableHlo.reshape main_v41 main_v42 (rfl : (.f32 : EltTy) = .f32) shapeCasts_S64_S1x64
  :: StableHlo.reshape main_v42 main_v43 (rfl : (.f32 : EltTy) = .f32) shapeCasts_S1x64_S1x1x1x64
  :: StableHlo.unary main_v43 main_v44 (broadcastInDim S1x1x2x64 ![0, 1, 2, 3] bcast_S1x1x1x64_S1x1x2x64_0_1_2_3 : (⟨S1x1x1x64, .f32⟩ : BufTy).Contents (Elt F) → (⟨S1x1x2x64, .f32⟩ : BufTy).Contents (Elt F))
  :: StableHlo.reshape main_v44 main_v45 (rfl : (.f32 : EltTy) = .f32) shapeCasts_S1x1x2x64_S1x128
  :: []

theorem split15 : (hostOps0 (F := F)) = A15 ++ O15 :: B15 := rfl
theorem split21 : (hostOps0 (F := F)) = A21 ++ O21 :: B21 := rfl

/-- The host's angles. -/
def KANG (A1 : IVec S16x4096 32) : FVec F S65536x8 .f32 :=
  mulf (broadcastInDim S65536x8 ![0, 1] bcast_S65536x1_S65536x8_0_1 (shapeCast _ (sitofp .f32 A1 : FVec F S16x4096 .f32) shapeCasts_S16x4096_S65536x1))
    (broadcastInDim S65536x8 ![0, 1] bcast_S1x8_S65536x8_0_1 (broadcastInDim S1x8 ![1] bcast_S8_S1x8_1 (Host.exp (Host.divf (mulf (broadcastInDim S8 ![] bcast_S_S8 (constant S_ .f32 0xC151F533#32)) (sitofp .f32 (iotaInDim S8 32 0))) (broadcastInDim S8 ![] bcast_S_S8 (constant S_ .f32 0x41000000#32))))))

/-- A table of sixty-four lanes laid twice side by side. -/
def TWICE (x : FVec F S65536x64 .f32) : FVec F S65536x128 .f32 :=
  shapeCast _ (broadcastInDim S1x65536x2x64 ![0, 1, 2, 3] bcast_S1x65536x1x64_S1x65536x2x64_0_1_2_3 (shapeCast S1x65536x1x64 x shapeCasts_S65536x64_S1x65536x1x64)) shapeCasts_S1x65536x2x64_S65536x128

variable (G : Valuation τ sig (Elt F))

theorem b15 : (StableHlo.after B15 G (main_v24 : DevRef τ sig) : FVec F S65536x128 .f32) = TWICE (G (main_v15 : DevRef τ sig)) := by
  funext y
  entry_read
  rfl

theorem b21 : (StableHlo.after B21 G (main_v30 : DevRef τ sig) : FVec F S65536x128 .f32) = TWICE (G (main_v21 : DevRef τ sig)) := by
  funext y
  entry_read
  rfl

theorem a15_12 : (StableHlo.after A15 G (main_v12 : DevRef τ sig) : FVec F S65536x8 .f32) = Host.cos (KANG (G (main_arg1 : DevRef τ sig))) := by
  funext y
  entry_read
  rfl

theorem a15_14 : (StableHlo.after A15 G (main_v14 : DevRef τ sig) : FVec F S65536x48 .f32) = broadcastInDim S65536x48 ![] bcast_S_S65536x48 (constant S_ .f32 0x3F800000#32) := by
  funext y
  entry_read
  rfl

theorem a21_13 : (StableHlo.after A21 G (main_v13 : DevRef τ sig) : FVec F S65536x8 .f32) = Host.sin (KANG (G (main_arg1 : DevRef τ sig))) := by
  funext y
  entry_read
  rfl

theorem a21_19 : (StableHlo.after A21 G (main_v19 : DevRef τ sig) : FVec F S65536x8 .f32) = broadcastInDim S65536x8 ![] bcast_S_S65536x8 (constant S_ .f32 0x00000000#32) := by
  funext y
  entry_read
  rfl

theorem a21_20 : (StableHlo.after A21 G (main_v20 : DevRef τ sig) : FVec F S65536x48 .f32) = broadcastInDim S65536x48 ![] bcast_S_S65536x48 (constant S_ .f32 0x00000000#32) := by
  funext y
  entry_read
  rfl

theorem o15 : (O15.result G (main_v15 : DevRef τ sig) : FVec F S65536x64 .f32)
    = concatenate S65536x64 1 [⟨S65536x8, (G (main_v12 : DevRef τ sig) : FVec F S65536x8 .f32)⟩, ⟨S65536x8, (G (main_v12 : DevRef τ sig) : FVec F S65536x8 .f32)⟩, ⟨S65536x48, (G (main_v14 : DevRef τ sig) : FVec F S65536x48 .f32)⟩] concatenates_S65536x8_S65536x8_S65536x48_S65536x64_d1 :=
  StableHlo.nary_result _ _ _ _ _ G

theorem o21 : (O21.result G (main_v21 : DevRef τ sig) : FVec F S65536x64 .f32)
    = concatenate S65536x64 1 [⟨S65536x8, (G (main_v19 : DevRef τ sig) : FVec F S65536x8 .f32)⟩, ⟨S65536x8, (G (main_v13 : DevRef τ sig) : FVec F S65536x8 .f32)⟩, ⟨S65536x48, (G (main_v20 : DevRef τ sig) : FVec F S65536x48 .f32)⟩] concatenates_S65536x8_S65536x8_S65536x48_S65536x64_d1 :=
  StableHlo.nary_result _ _ _ _ _ G

/-- The table of cosines. -/
def COSTAB (A1 : IVec S16x4096 32) : FVec F S65536x128 .f32 :=
  TWICE (concatenate S65536x64 1 [⟨S65536x8, Host.cos (KANG A1)⟩, ⟨S65536x8, Host.cos (KANG A1)⟩, ⟨S65536x48, broadcastInDim S65536x48 ![] bcast_S_S65536x48 (constant S_ .f32 0x3F800000#32)⟩] concatenates_S65536x8_S65536x8_S65536x48_S65536x64_d1)

/-- The table of sines that turn upwards. -/
def HITAB (A1 : IVec S16x4096 32) : FVec F S65536x128 .f32 :=
  TWICE (concatenate S65536x64 1 [⟨S65536x8, broadcastInDim S65536x8 ![] bcast_S_S65536x8 (constant S_ .f32 0x00000000#32)⟩, ⟨S65536x8, Host.sin (KANG A1)⟩, ⟨S65536x48, broadcastInDim S65536x48 ![] bcast_S_S65536x48 (constant S_ .f32 0x00000000#32)⟩] concatenates_S65536x8_S65536x8_S65536x48_S65536x64_d1)

theorem v24 : (StableHlo.after (hostOps0 (F := F)) G (main_v24 : DevRef τ sig) : FVec F S65536x128 .f32) = COSTAB (G (main_arg1 : DevRef τ sig)) := by
  rw [split15]
  unfold COSTAB
  refine Eq.trans (b15 (O15.result (StableHlo.after A15 G))) (congrArg TWICE (Eq.trans (o15 (StableHlo.after A15 G)) ?_))
  rw [a15_12, a15_14]

theorem v30 : (StableHlo.after (hostOps0 (F := F)) G (main_v30 : DevRef τ sig) : FVec F S65536x128 .f32) = HITAB (G (main_arg1 : DevRef τ sig)) := by
  rw [split21]
  unfold HITAB
  refine Eq.trans (b21 (O21.result (StableHlo.after A21 G))) (congrArg TWICE (Eq.trans (o21 (StableHlo.after A21 G)) ?_))
  rw [a21_19, a21_13, a21_20]

end Cert.Proof.InProj

end
-- ==== Proof.InProjTab.lean ====
/-
  The kernel's three tables of cosines and sines, read at an index.
-/
module

public import proofs.«01_k».proof.Proof.InProjIn
public import proofs.«01_k».proof.Proof.InProjHost

@[expose] public section

set_option maxRecDepth 16384
set_option maxHeartbeats 2000000

noncomputable section

namespace Cert.Proof.InProj

open Cert.InProjIdeal Cert.InProjIdeal.Gen Idealize.ShloMosaic Idealize.ShloMosaic.TcCoe Idealize.SL.Sem

theorem cos_at (m : (ℓ : Loc nD τ sig) → Buf (Elt Ideal) ℓ) (c : Dev nD) (t : Fin cfg0.N) (r : Fin 512) (n : Fin 65536) (hn : n.val = t.val * 512 + r.val) (l : Fin 128) :
    (iblk m c 5 t : Vec Ideal S512x128 .f32) (ix2 r l)
      = cosT (fun j => Ideal.cos (ang ((m ((c : Thread nD τ).loc main_arg1) : IVec S16x4096 32) (ix2 ⟨n.val / 4096, by omega⟩ ⟨n.val % 4096, by omega⟩)) j)) ⟨l.val % 64, by omega⟩ := by
  blk_simp [iblk]
  refine Eq.trans (congrFun (v24 _) _) ?_
  refine Eq.trans (congrArg _ (show _ = (ix2 n l : S65536x128.Idx) from by blk_ext [idx t])) ?_
  by_cases h1 : l.val % 64 < 8
  · pointwise [COSTAB, TWICE, KANG, cosT, ang, h1]
  · by_cases h2 : l.val % 64 < 16
    · have h3 : l.val % 64 - 8 < 8 := by omega
      pointwise [COSTAB, TWICE, KANG, cosT, ang, h1, h2, h3]
    · have h3 : ¬ l.val % 64 - 8 < 8 := by omega
      pointwise [COSTAB, TWICE, KANG, cosT, ang, h1, h2, h3]

theorem lo_at (m : (ℓ : Loc nD τ sig) → Buf (Elt Ideal) ℓ) (c : Dev nD) (t : Fin cfg0.N) (r : Fin 512) (n : Fin 65536) (hn : n.val = t.val * 512 + r.val) (l : Fin 128) :
    (iblk m c 6 t : Vec Ideal S512x128 .f32) (ix2 r l)
      = loT (fun j => Ideal.sin (ang ((m ((c : Thread nD τ).loc main_arg1) : IVec S16x4096 32) (ix2 ⟨n.val / 4096, by omega⟩ ⟨n.val % 4096, by omega⟩)) j)) ⟨l.val % 64, by omega⟩ := by
  blk_simp [iblk]
  entry_read
  refine Eq.trans (congrArg _ (show _ = (ix2 n l : S65536x128.Idx) from by blk_ext [idx t])) ?_
  by_cases h1 : l.val % 64 < 8
  · pointwise [loT, ang, h1]
  · by_cases h2 : l.val % 64 < 16
    · pointwise [loT, ang, h1, h2]
    · pointwise [loT, ang, h1, h2]

theorem hi_at (m : (ℓ : Loc nD τ sig) → Buf (Elt Ideal) ℓ) (c : Dev nD) (t : Fin cfg0.N) (r : Fin 512) (n : Fin 65536) (hn : n.val = t.val * 512 + r.val) (l : Fin 128) :
    (iblk m c 7 t : Vec Ideal S512x128 .f32) (ix2 r l)
      = hiT (fun j => Ideal.sin (ang ((m ((c : Thread nD τ).loc main_arg1) : IVec S16x4096 32) (ix2 ⟨n.val / 4096, by omega⟩ ⟨n.val % 4096, by omega⟩)) j)) ⟨l.val % 64, by omega⟩ := by
  blk_simp [iblk]
  refine Eq.trans (congrFun (v30 _) _) ?_
  refine Eq.trans (congrArg _ (show _ = (ix2 n l : S65536x128.Idx) from by blk_ext [idx t])) ?_
  by_cases h1 : l.val % 64 < 8
  · pointwise [HITAB, TWICE, KANG, hiT, ang, h1]
  · by_cases h2 : l.val % 64 < 16
    · have h3 : l.val % 64 - 8 < 8 := by omega
      pointwise [HITAB, TWICE, KANG, hiT, ang, h1, h2, h3]
    · have h3 : ¬ l.val % 64 - 8 < 8 := by omega
      pointwise [HITAB, TWICE, KANG, hiT, ang, h1, h2, h3]

end Cert.Proof.InProj

end
-- ==== Proof.InProjFinalQK.lean ====
/-
  The kernel's queries and keys, as the reference's.
-/
module

public import proofs.«01_k».proof.Proof.InProjLin
public import proofs.«01_k».proof.Proof.InProjHeads
public import proofs.«01_k».proof.Proof.InProjRefQK
public import proofs.«01_k».proof.Proof.InProjTab
public import proofs.«01_k».proof.Proof.InProjOut

@[expose] public section

set_option maxRecDepth 16384

noncomputable section

namespace Cert.Proof.InProj

open Cert.InProjIdeal Cert.InProjIdeal.Gen Idealize.ShloMosaic Idealize.ShloMosaic.TcCoe Idealize.SL.Sem

variable (m : (ℓ : Loc nD τ sig) → Buf (Elt Ideal) ℓ)

theorem w2048_at (c : Dev nD) (t : Fin cfg0.N) (k l : Fin 1024) :
    (View.ld (iblk m c 2 t) r0_5 : Vec Ideal S1024x1024 .bf16) (ix2 k l) = (m ((c : Thread nD τ).loc main_arg3) : FVec Ideal S1x1024x7168 .f32) (ix3 0 k ⟨2048 + l.val, by omega⟩) := by
  refine Eq.trans ?_ (w_at m c t k ⟨2048 + l.val, by omega⟩)
  pointwise

theorem point10 (c : Dev nD) (t : Fin cfg0.N) (r : Fin 512) (l : Fin 1024) (n : Fin 65536) (hn : n.val = t.val * 512 + r.val) :
    QB (k0_pay14 (k0_pay5 (iblk m c 0 t) (iblk m c 1 t)) (View.ld (iblk m c 2 t) r0_5)) SEG (k0_pay15 (iblk m c 3 t)) (k0_pay11 (iblk m c 5 t)) (k0_pay12 (iblk m c 6 t)) (k0_pay13 (iblk m c 7 t)) (ix2 r l)
      = RQ (PROJ (m ((c : Thread nD τ).loc main_arg0)) (m ((c : Thread nD τ).loc main_arg2)) (m ((c : Thread nD τ).loc main_arg3)))
          (m ((c : Thread nD τ).loc main_arg1)) (m ((c : Thread nD τ).loc main_arg4)) (ix2 n l) := by
  refine Eq.trans (qb_at _ r _ (fun d => (m ((c : Thread nD τ).loc main_arg4) : FVec Ideal S1x64 .f32) (ix2 0 d))
    (fun j => Eq.trans (by pointwise [k0_pay15]) (qg_at m c t j)) _ _ _ (fun j => Ideal.cos (ang ((m ((c : Thread nD τ).loc main_arg1) : IVec S16x4096 32) (ix2 ⟨n.val / 4096, by omega⟩ ⟨n.val % 4096, by omega⟩)) j)) (fun j => Ideal.sin (ang ((m ((c : Thread nD τ).loc main_arg1) : IVec S16x4096 32) (ix2 ⟨n.val / 4096, by omega⟩ ⟨n.val % 4096, by omega⟩)) j))
    (fun j => Eq.trans (by pointwise [k0_pay11]) (cos_at m c t r n hn j)) (fun j => Eq.trans (by pointwise [k0_pay12]) (lo_at m c t r n hn j))
    (fun j => Eq.trans (by pointwise [k0_pay13]) (hi_at m c t r n hn j)) l) ?_
  rw [rq_at]
  simp only [ker14, proj_at, x_at m c t r n hn, g_at, w2048_at]
  rfl

/-- The result array after the run. -/
theorem final10 (c : Dev nD) :
    (dats m 0 c).arrAt 10 cfg0.N
      = RQ (PROJ (m ((c : Thread nD τ).loc main_arg0)) (m ((c : Thread nD τ).loc main_arg2)) (m ((c : Thread nD τ).loc main_arg3)))
          (m ((c : Thread nD τ).loc main_arg1)) (m ((c : Thread nD τ).loc main_arg4)) := by
  refine (dats m 0 c).arrAt_eq_of_covers 10 _ (by decide +kernel) fun t _ y => ?_
  blk_simp
  rw [after0_10]
  frame_out
  simp only [p47, p48, p49, p50, p51, p52, p53]
  have hy : (y : S512x1024.Idx) = ix2 (y 0) (y 1) := by
    funext a; fin_cases a <;> rfl
  have ht : t.val < 128 := t.isLt
  have h0 : (y 0).val < 512 := (y 0).isLt
  have e := point10 m c t (y 0) (y 1) ⟨t.val * 512 + (y 0).val, by omega⟩ rfl
  refine Eq.trans (congrFun (q_pieces (k0_pay5 (iblk m c 0 t) (iblk m c 1 t)) SEG (iblk m c 5 t) (iblk m c 6 t) (iblk m c 7 t) (View.ld (iblk m c 2 t) r0_5) (iblk m c 3 t)) y) ?_
  refine Eq.trans (congrArg (QB (k0_pay14 (k0_pay5 (iblk m c 0 t) (iblk m c 1 t)) (View.ld (iblk m c 2 t) r0_5)) SEG (k0_pay15 (iblk m c 3 t)) (k0_pay11 (iblk m c 5 t)) (k0_pay12 (iblk m c 6 t)) (k0_pay13 (iblk m c 7 t))) hy) ?_
  refine Eq.trans e (congrArg (RQ (PROJ (m ((c : Thread nD τ).loc main_arg0)) (m ((c : Thread nD τ).loc main_arg2)) (m ((c : Thread nD τ).loc main_arg3))) (m ((c : Thread nD τ).loc main_arg1)) (m ((c : Thread nD τ).loc main_arg4))) ?_)
  blk_ext [idx t]

theorem w3072_at (c : Dev nD) (t : Fin cfg0.N) (k l : Fin 1024) :
    (View.ld (iblk m c 2 t) r0_7 : Vec Ideal S1024x1024 .bf16) (ix2 k l) = (m ((c : Thread nD τ).loc main_arg3) : FVec Ideal S1x1024x7168 .f32) (ix3 0 k ⟨3072 + l.val, by omega⟩) := by
  refine Eq.trans ?_ (w_at m c t k ⟨3072 + l.val, by omega⟩)
  pointwise

theorem point11 (c : Dev nD) (t : Fin cfg0.N) (r : Fin 512) (l : Fin 1024) (n : Fin 65536) (hn : n.val = t.val * 512 + r.val) :
    KB (k0_pay32 (k0_pay5 (iblk m c 0 t) (iblk m c 1 t)) (View.ld (iblk m c 2 t) r0_7)) SEG (k0_pay33 (iblk m c 4 t)) (k0_pay11 (iblk m c 5 t)) (k0_pay12 (iblk m c 6 t)) (k0_pay13 (iblk m c 7 t)) (ix2 r l)
      = RK (PROJ (m ((c : Thread nD τ).loc main_arg0)) (m ((c : Thread nD τ).loc main_arg2)) (m ((c : Thread nD τ).loc main_arg3)))
          (m ((c : Thread nD τ).loc main_arg1)) (m ((c : Thread nD τ).loc main_arg5)) (ix2 n l) := by
  refine Eq.trans (kb_at _ r _ (fun d => (m ((c : Thread nD τ).loc main_arg5) : FVec Ideal S1x64 .f32) (ix2 0 d))
    (fun j => Eq.trans (by pointwise [k0_pay33]) (kg_at m c t j)) _ _ _ (fun j => Ideal.cos (ang ((m ((c : Thread nD τ).loc main_arg1) : IVec S16x4096 32) (ix2 ⟨n.val / 4096, by omega⟩ ⟨n.val % 4096, by omega⟩)) j)) (fun j => Ideal.sin (ang ((m ((c : Thread nD τ).loc main_arg1) : IVec S16x4096 32) (ix2 ⟨n.val / 4096, by omega⟩ ⟨n.val % 4096, by omega⟩)) j))
    (fun j => Eq.trans (by pointwise [k0_pay11]) (cos_at m c t r n hn j)) (fun j => Eq.trans (by pointwise [k0_pay12]) (lo_at m c t r n hn j))
    (fun j => Eq.trans (by pointwise [k0_pay13]) (hi_at m c t r n hn j)) l) ?_
  rw [rk_at]
  simp only [ker32, proj_at, x_at m c t r n hn, g_at, w3072_at]
  rfl

/-- The result array after the run. -/
theorem final11 (c : Dev nD) :
    (dats m 0 c).arrAt 11 cfg0.N
      = RK (PROJ (m ((c : Thread nD τ).loc main_arg0)) (m ((c : Thread nD τ).loc main_arg2)) (m ((c : Thread nD τ).loc main_arg3)))
          (m ((c : Thread nD τ).loc main_arg1)) (m ((c : Thread nD τ).loc main_arg5)) := by
  refine (dats m 0 c).arrAt_eq_of_covers 11 _ (by decide +kernel) fun t _ y => ?_
  blk_simp
  rw [after0_11]
  frame_out
  simp only [p47, p48, p49, p50, p51, p54, p55]
  have hy : (y : S512x1024.Idx) = ix2 (y 0) (y 1) := by
    funext a; fin_cases a <;> rfl
  have ht : t.val < 128 := t.isLt
  have h0 : (y 0).val < 512 := (y 0).isLt
  have e := point11 m c t (y 0) (y 1) ⟨t.val * 512 + (y 0).val, by omega⟩ rfl
  refine Eq.trans (congrFun (k_pieces (k0_pay5 (iblk m c 0 t) (iblk m c 1 t)) SEG (iblk m c 5 t) (iblk m c 6 t) (iblk m c 7 t) (View.ld (iblk m c 2 t) r0_7) (iblk m c 4 t)) y) ?_
  refine Eq.trans (congrArg (KB (k0_pay32 (k0_pay5 (iblk m c 0 t) (iblk m c 1 t)) (View.ld (iblk m c 2 t) r0_7)) SEG (k0_pay33 (iblk m c 4 t)) (k0_pay11 (iblk m c 5 t)) (k0_pay12 (iblk m c 6 t)) (k0_pay13 (iblk m c 7 t))) hy) ?_
  refine Eq.trans e (congrArg (RK (PROJ (m ((c : Thread nD τ).loc main_arg0)) (m ((c : Thread nD τ).loc main_arg2)) (m ((c : Thread nD τ).loc main_arg3))) (m ((c : Thread nD τ).loc main_arg1)) (m ((c : Thread nD τ).loc main_arg5))) ?_)
  blk_ext [idx t]

end Cert.Proof.InProj

end
-- ==== Proof.InProjClaims.lean ====
/-
  The input projection's claims: nothing was renamed, and the kernel's seven arrays are the reference's, with no condition
  on the inputs.
-/
module

public import proofs.«01_k».proof.Defs
public import proofs.«01_k».proof.Proof.InProjFinal
public import proofs.«01_k».proof.Proof.InProjFinalQK
public import proofs.«01_k».proof.Proof.Gen.InProj.Frame
public import Idealize.ShloMosaic.Lib.Quiescent

@[expose] public section

set_option maxRecDepth 16384
set_option maxHeartbeats 2000000

noncomputable section

namespace Cert.Proof.InProj

open Idealize.ShloMosaic Idealize.ShloMosaic.TcCoe Idealize.SL.Sem

instance projFacts : Cert.InProj.Facts := Cert.InProj.Gen.facts
instance projIdealFacts : Cert.InProjIdeal.Facts := Cert.InProjIdeal.Gen.facts
instance projRefFacts : Cert.InProjRefIdeal.Facts := Cert.InProjRefIdeal.Gen.facts

section

open Cert.InProjRefIdeal Cert.InProjRefIdeal.Gen

variable (m : (ℓ : Loc nD τ sig) → Buf (Elt Ideal) ℓ) (c : Dev nD)

theorem v108_eq : Cert.InProjRefIdeal.Value.res_main_v108 (F := Ideal) m c
    = RQ (PROJ (m ((c.tc : Thread nD τ).loc main_arg0)) (m ((c.tc : Thread nD τ).loc main_arg2)) (m ((c.tc : Thread nD τ).loc main_arg3)))
        (m ((c.tc : Thread nD τ).loc main_arg1)) (m ((c.tc : Thread nD τ).loc main_arg4)) := rfl

theorem v110_eq : Cert.InProjRefIdeal.Value.res_main_v110 (F := Ideal) m c
    = RK (PROJ (m ((c.tc : Thread nD τ).loc main_arg0)) (m ((c.tc : Thread nD τ).loc main_arg2)) (m ((c.tc : Thread nD τ).loc main_arg3)))
        (m ((c.tc : Thread nD τ).loc main_arg1)) (m ((c.tc : Thread nD τ).loc main_arg5)) := rfl

end

/-- The reference leaves its arguments as they were, and every counter at zero. -/
theorem frame_ri : Cert.quiescent_InProjRefIdeal := fun m ρ _ =>
  (θ_run Cert.InProjRefIdeal.defs _ _).mono (fun r h => ⟨fun c => (h c).2.2.2.2.2.2.2, Idealize.ShloMosaic.sem_eq_zero_of_no_sems (by decide) r.2⟩)
    (Cert.InProjRefIdeal.Value.run (F := Ideal) m ρ)

/-- No operation was renamed. -/
theorem preserves : Cert.preserves_InProj_InProjIdeal := trivial

/-- The kernel's seven results are the reference's. -/
theorem algebraic : Cert.algebraic_InProjIdeal_InProjRefIdeal := by
  intro m ρ m' ρ' hpre hagree
  refine ⟨_, _, _, _, _, _, _, Cert.InProjIdeal.Value.run_blocks m ρ, ?_⟩
  refine (θ_run Cert.InProjRefIdeal.defs _ _).mono (fun _ h c => ?_) (Cert.InProjRefIdeal.Value.run (F := Ideal) m' ρ')
  obtain ⟨h0, h1, h2, h3, h4, h5, h6, hs⟩ := h c
  obtain ⟨a0, a1, a2, a3, a4, a5⟩ := hagree c
  refine ⟨h0.trans ?_, h1.trans ?_, h2.trans ?_, h3.trans ?_, h4.trans ?_, h5.trans ?_, h6.trans ?_, hs⟩
  · rw [a0, a2, a3]
    exact (final8 m c).symm
  · rw [a0, a2, a3]
    exact (final9 m c).symm
  · rw [v108_eq, a0, a1, a2, a3, a4]
    exact (final10 m c).symm
  · rw [v110_eq, a0, a1, a2, a3, a5]
    exact (final11 m c).symm
  · rw [a0, a2, a3]
    exact (final12 m c).symm
  · rw [a0, a2, a3]
    exact (final13 m c).symm
  · rw [a0, a2, a3]
    exact (final14 m c).symm

end Cert.Proof.InProj

end
-- ==== Proof.MixOutVal.lean ====
/-
  The output projection, read at an index: one grid point's block of the kernel, and the reference's array.
-/
module

public import proofs.«01_k».proof.Proof.Gen.MixOutIdeal.Value
public import proofs.«01_k».proof.Proof.Gen.MixOutRefIdeal.Run
public import Idealize.ShloMosaic.Lib.Pipeline.ValueKit
public import Idealize.ShloMosaic.Lib.Pointwise

@[expose] public section

set_option maxRecDepth 16384

noncomputable section

namespace Cert.Proof.MixOut

open Idealize.ShloMosaic Idealize.ShloMosaic.TcCoe Idealize.SL.Sem

/-- One entry of the result: the residual plus the gated merge of the two branches against a column of the output matrix. -/
def entry (x : EReal) (o ga ml : Fin 1024 → EReal) (wao : Fin 1024 → Fin 1024 → EReal) (wout : Fin 1024 → EReal) : EReal :=
  x + ∑ k : Fin 1024, (ml k + Ideal.logistic (ga k) * ∑ j : Fin 1024, o j * wao j k) * wout k

section Ker

open Cert.MixOutIdeal Cert.MixOutIdeal.Gen

/-- The kernel's block at an index. -/
theorem ker_at (o ml ga : FVec Ideal S512x1024 .bf16) (wao wout : FVec Ideal S1024x1024 .bf16) (x : FVec Ideal S512x1024 .f32) (r : Fin 512) (l : Fin 1024) :
    k0_pay1 (F := Ideal) o wao ml ga x wout (ix2 r l)
      = entry (x (ix2 r l)) (fun k => o (ix2 r k)) (fun k => ga (ix2 r k)) (fun k => ml (ix2 r k)) (fun j k => wao (ix2 j k)) (fun k => wout (ix2 k l)) := by
  pointwise [k0_pay1, entry]

end Ker

section Ref

open Cert.MixOutRefIdeal Cert.MixOutRefIdeal.Gen

/-- The gated merge of the two branches. -/
def mixed (o : FVec Ideal S16x4096x1024 .bf16) (ga : FVec Ideal S65536x1024 .bf16) (ml : FVec Ideal S16x4096x1024 .bf16) (wao : FVec Ideal S1x1024x1024 .f32) :
    FVec Ideal S16x4096x1024 .f32 :=
  addf (extf .f32 ml bitsLt_bf16_f32) (mulf (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (shapeCast _ (extf .f32 ga bitsLt_bf16_f32) shapeCasts_S65536x1024_S16x4096x1024))))) (Host.dotGeneral dot_S16x4096x1024_S1024x1024_S16x4096x1024_2_0_01_1_n_n none (extf .f32 o bitsLt_bf16_f32) (shapeCast _ wao shapeCasts_S1x1024x1024_S1024x1024)))

/-- The reference's result over its arguments. -/
def REF (x : FVec Ideal S16x4096x1024 .f32) (o : FVec Ideal S16x4096x1024 .bf16) (ga : FVec Ideal S65536x1024 .bf16) (ml : FVec Ideal S16x4096x1024 .bf16)
    (wao wout : FVec Ideal S1x1024x1024 .f32) : FVec Ideal S65536x1024 .f32 :=
  shapeCast _ (addf x (Host.dotGeneral dot_S16x4096x1024_S1024x1024_S16x4096x1024_2_0_01_1_n_n none (mixed o ga ml wao) (shapeCast _ wout shapeCasts_S1x1024x1024_S1024x1024))) shapeCasts_S16x4096x1024_S65536x1024

theorem one_word : Ideal.ofBits FTy.f32 1065353216#32 = (1 : EReal) := by
  have e : (8388608 : ℝ) * (2 ^ 23)⁻¹ = 1 := by norm_num
  have f : Ideal.ofBits FTy.f32 1065353216#32 = (((8388608 : ℝ) * (2 ^ 23)⁻¹ : ℝ) : EReal) := by
    rw [EReal.coe_mul]
    simp [Ideal.ofBits, Ideal.ieee]
  rw [f, e, EReal.coe_one]

theorem mixed_at (o : FVec Ideal S16x4096x1024 .bf16) (ga : FVec Ideal S65536x1024 .bf16) (ml : FVec Ideal S16x4096x1024 .bf16) (wao : FVec Ideal S1x1024x1024 .f32)
    (b : Fin 16) (s : Fin 4096) (k : Fin 1024) :
    mixed o ga ml wao (ix3 b s k)
      = ml (ix3 b s k) + Ideal.logistic (ga (ix2 ⟨b.val * 4096 + s.val, by omega⟩ k)) * ∑ j : Fin 1024, o (ix3 b s j) * wao (ix3 0 j k) := by
  pointwise [mixed, Ideal.logistic]

/-- The reference's array at an index. -/
theorem ref_at (x : FVec Ideal S16x4096x1024 .f32) (o : FVec Ideal S16x4096x1024 .bf16) (ga : FVec Ideal S65536x1024 .bf16) (ml : FVec Ideal S16x4096x1024 .bf16)
    (wao wout : FVec Ideal S1x1024x1024 .f32) (b : Fin 16) (s : Fin 4096) (l : Fin 1024) (n : Fin 65536) (hn : n.val = b.val * 4096 + s.val) :
    REF x o ga ml wao wout (ix2 n l)
      = entry (x (ix3 b s l)) (fun k => o (ix3 b s k)) (fun k => ga (ix2 n k)) (fun k => ml (ix3 b s k)) (fun j k => wao (ix3 0 j k)) (fun k => wout (ix3 0 k l)) := by
  have hb : (⟨n.val / 4096, by omega⟩ : Fin 16) = b := Fin.ext (by dsimp only; omega)
  have hs : (⟨n.val % 4096, by omega⟩ : Fin 4096) = s := Fin.ext (by dsimp only; omega)
  have hn' : (⟨b.val * 4096 + s.val, by omega⟩ : Fin 65536) = n := Fin.ext hn.symm
  pointwise [REF, entry]
  simp only [hb, hs, mixed_at, hn']

end Ref

end Cert.Proof.MixOut

end
-- ==== Proof.MixOutFinal.lean ====
/-
  The output projection's whole result: block by block it is the reference's array.
-/
module

public import proofs.«01_k».proof.Proof.MixOutVal

@[expose] public section

set_option maxRecDepth 16384

noncomputable section

namespace Cert.Proof.MixOut

open Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

theorem point (c : Dev nD) (t : Fin cfg0.N) (r : Fin 512) (l : Fin 1024) (n : Fin 65536) (hn : n.val = t.val * 512 + r.val) :
    k0_pay1 (F := Ideal) (iblk m c 1 t) (iblk m c 4 t) (iblk m c 3 t) (iblk m c 2 t) (iblk m c 0 t) (iblk m c 5 t) (ix2 r l)
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (ix2 n l) := by
  have e0 : (iblk m c 0 t : Vec Ideal S512x1024 .f32) (ix2 r l) = (m ((c : Thread nD τ).loc main_arg0) : FVec Ideal S16x4096x1024 .f32) (ix3 ⟨n.val / 4096, by omega⟩ ⟨n.val % 4096, by omega⟩ l) := by
    blk_simp [iblk]
    entry_read
    pointwise
    blk_ext [idx t]
  have e1 : ∀ k : Fin 1024, (iblk m c 1 t : Vec Ideal S512x1024 .bf16) (ix2 r k) = (m ((c : Thread nD τ).loc main_arg1) : FVec Ideal S16x4096x1024 .bf16) (ix3 ⟨n.val / 4096, by omega⟩ ⟨n.val % 4096, by omega⟩ k) := fun k => by
    blk_simp [iblk]
    entry_read
    pointwise
    blk_ext [idx t]
  have e3 : ∀ k : Fin 1024, (iblk m c 3 t : Vec Ideal S512x1024 .bf16) (ix2 r k) = (m ((c : Thread nD τ).loc main_arg3) : FVec Ideal S16x4096x1024 .bf16) (ix3 ⟨n.val / 4096, by omega⟩ ⟨n.val % 4096, by omega⟩ k) := fun k => by
    blk_simp [iblk]
    entry_read
    pointwise
    blk_ext [idx t]
  have e2 : ∀ k : Fin 1024, (iblk m c 2 t : Vec Ideal S512x1024 .bf16) (ix2 r k) = (m ((c : Thread nD τ).loc main_arg2) : FVec Ideal S65536x1024 .bf16) (ix2 n k) := fun k => by
    blk_point [iblk, V, idx t]
  have e4 : ∀ j k : Fin 1024, (iblk m c 4 t : Vec Ideal S1024x1024 .bf16) (ix2 j k) = (m ((c : Thread nD τ).loc main_arg4) : FVec Ideal S1x1024x1024 .f32) (ix3 0 j k) := fun j k => by
    blk_simp [iblk]
    entry_read
    pointwise
    blk_ext [idx t]
  have e5 : ∀ j k : Fin 1024, (iblk m c 5 t : Vec Ideal S1024x1024 .bf16) (ix2 j k) = (m ((c : Thread nD τ).loc main_arg5) : FVec Ideal S1x1024x1024 .f32) (ix3 0 j k) := fun j k => by
    blk_simp [iblk]
    entry_read
    pointwise
    blk_ext [idx t]
  rw [ker_at, ref_at _ _ _ _ _ _ ⟨n.val / 4096, by omega⟩ ⟨n.val % 4096, by omega⟩ l n (by dsimp only; omega), e0]
  simp only [e1, e2, e3, e4, e5]

/-- The result array after the run. -/
theorem final (c : Dev nD) :
    (dats m 0 c).arrAt 6 cfg0.N
      = REF (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 6 _ (by decide +kernel) fun t _ y => ?_
  blk_simp
  rw [after0_6]
  frame_out
  have hy : (y : S512x1024.Idx) = ix2 (y 0) (y 1) := by
    funext a; fin_cases a <;> rfl
  have ht : t.val < 128 := t.isLt
  have h0 : (y 0).val < 512 := (y 0).isLt
  refine Eq.trans (congrArg _ hy) (Eq.trans (point m c t (y 0) (y 1) ⟨t.val * 512 + (y 0).val, by omega⟩ rfl) (congrArg _ ?_))
  blk_ext [idx t]

end Cert.Proof.MixOut

end
-- ==== Proof.MixOutClaims.lean ====
/-
  The output projection's claims: nothing was renamed, and the kernel's array is the reference's, with no condition on
  the inputs.
-/
module

public import proofs.«01_k».proof.Defs
public import proofs.«01_k».proof.Proof.MixOutFinal
public import proofs.«01_k».proof.Proof.Gen.MixOut.Frame
public import Idealize.ShloMosaic.Lib.Quiescent

@[expose] public section

set_option maxRecDepth 16384

noncomputable section

namespace Cert.Proof.MixOut

open Idealize.ShloMosaic Idealize.ShloMosaic.TcCoe Idealize.SL.Sem

instance mixFacts : Cert.MixOut.Facts := Cert.MixOut.Gen.facts
instance mixIdealFacts : Cert.MixOutIdeal.Facts := Cert.MixOutIdeal.Gen.facts
instance mixRefFacts : Cert.MixOutRefIdeal.Facts := Cert.MixOutRefIdeal.Gen.facts

/-- The reference leaves its arguments as they were, and every counter at zero. -/
theorem frame_ri : Cert.quiescent_MixOutRefIdeal := fun m ρ _ =>
  (θ_run Cert.MixOutRefIdeal.defs _ _).mono (fun r h => ⟨fun c => (h c).2, Idealize.ShloMosaic.sem_eq_zero_of_no_sems (by decide) r.2⟩)
    (Cert.MixOutRefIdeal.Value.run (F := Ideal) m ρ)

/-- No operation was renamed. -/
theorem preserves : Cert.preserves_MixOut_MixOutIdeal := trivial

/-- The kernel's result is the reference's. -/
theorem algebraic : Cert.algebraic_MixOutIdeal_MixOutRefIdeal := by
  intro m ρ m' ρ' hpre hagree
  refine ⟨_, Cert.MixOutIdeal.Value.run_blocks m ρ, ?_⟩
  refine (θ_run Cert.MixOutRefIdeal.defs _ _).mono (fun _ h c => ⟨(h c).1.trans ?_, (h c).2⟩) (Cert.MixOutRefIdeal.Value.run (F := Ideal) m' ρ')
  obtain ⟨a0, a1, a2, a3, a4, a5⟩ := hagree c
  rw [a0, a1, a2, a3, a4, a5]
  exact (final m c).symm

end Cert.Proof.MixOut

end
-- ==== Proof.MemKvVal.lean ====
/-
  The memory's keys and values, read at an index: one grid point's block of the kernel, and the reference's arrays.
-/
module

public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise

@[expose] public section

set_option maxRecDepth 16384

noncomputable section

namespace Cert.Proof.MemKv

open Idealize.ShloMosaic Idealize.ShloMosaic.TcCoe Idealize.SL.Sem

/-- One entry of the normalised memory: the memory over its root mean square, times the gain. -/
def nrm (x g : Fin 1024 → EReal) (k : Fin 1024) : EReal :=
  x k * Ideal.rsqrt (Ideal.div (∑ j : Fin 1024, x j * x j) (Ideal.ofBits FTy.f32 1149239296#32) + Ideal.ofBits FTy.f32 897988541#32) * g k

/-- One entry of the projection: the normalised memory against a column of the weights. -/
def lin (x g w : Fin 1024 → EReal) : EReal := ∑ k : Fin 1024, nrm x g k * w k

/-- One entry of the keys: the projection over the root mean square of its head, times the gain. -/
def key (P : Fin 1024 → EReal) (q : Fin 128 → EReal) (l : Fin 512) : EReal :=
  P ⟨l.val, by omega⟩ * Ideal.rsqrt (Ideal.div (∑ d : Fin 128, P ⟨l.val / 128 * 128 + d.val, by omega⟩ * P ⟨l.val / 128 * 128 + d.val, by omega⟩)
    (Ideal.ofBits FTy.f32 1124073472#32) + Ideal.ofBits FTy.f32 897988541#32) * q ⟨l.val % 128, by omega⟩

/-- A key, its entries by their positions in the projection. -/
theorem key_at (P : Fin 1024 → EReal) (Q : Fin 128 → EReal) (l : Fin 512) (i : Fin 1024) (f : Fin 128 → Fin 1024) (j : Fin 128)
    (hi : i.val = l.val) (hf : ∀ d : Fin 128, (f d).val = l.val / 128 * 128 + d.val) (hj : j.val = l.val % 128) :
    P i * Ideal.rsqrt (Ideal.div (∑ d : Fin 128, P (f d) * P (f d)) (Ideal.ofBits FTy.f32 1124073472#32) + Ideal.ofBits FTy.f32 897988541#32) * Q j = key P Q l := by
  have h1 : i = ⟨l.val, by omega⟩ := Fin.ext hi
  have h2 : ∀ d : Fin 128, f d = ⟨l.val / 128 * 128 + d.val, by omega⟩ := fun d => Fin.ext (hf d)
  have h3 : j = ⟨l.val % 128, by omega⟩ := Fin.ext hj
  simp only [key, h1, h2, h3]

section Ker

open Cert.MemKvIdeal Cert.MemKvIdeal.Gen

variable (x : FVec Ideal S1x256x1024 .f32) (g : FVec Ideal S1x1024 .f32) (w : FVec Ideal S1024x1024 .bf16) (q : FVec Ideal S1x128 .f32) (r : Fin 256)

/-- The kernel's projection. -/
theorem ker_lin (l : Fin 1024) :
    k0_pay2 (F := Ideal) x g w (ix2 r l) = lin (fun k => x (ix3 0 r k)) (fun k => g (ix2 0 k)) (fun k => w (ix2 k l)) := by
  pointwise [k0_pay2, lin, nrm]

/-- The kernel's block of values. -/
theorem ker_v (p : FVec Ideal S256x1024 .f32) (l : Fin 512) : k0_pay1 (F := Ideal) p (ix3 0 r l) = p (ix2 r ⟨512 + l.val, by omega⟩) := by
  pointwise [k0_pay1]

/-- The kernel's block of keys: four heads side by side. -/
theorem ker_k (l : Fin 512) :
    k0_pay7 (F := Ideal) (k0_pay2 x g w) (k0_pay3 x g w q) (k0_pay4 x g w) (k0_pay5 q) (k0_pay6 x g w) q q (ix3 0 r l)
      = key (fun l => k0_pay2 (F := Ideal) x g w (ix2 r l)) (fun d => q (ix2 0 d)) l := by
  have hl : l.val < 512 := l.isLt
  pointwise [k0_pay7, k0_pay3, k0_pay4, k0_pay5, k0_pay6]
  generalize k0_pay2 (F := Ideal) x g w = p
  split
  · exact key_at (fun l => p (ix2 r l)) (fun d => q (ix2 0 d)) l ⟨l.val, by omega⟩ (fun d => ⟨d.val, by omega⟩) ⟨l.val, by omega⟩ (by first | rfl | (dsimp only; omega)) (fun d => by dsimp only; omega) (by dsimp only; omega)
  split
  · exact key_at (fun l => p (ix2 r l)) (fun d => q (ix2 0 d)) l ⟨128 + (l.val - 128), by omega⟩ (fun d => ⟨128 + d.val, by omega⟩) ⟨l.val - 128, by omega⟩ (by first | rfl | (dsimp only; omega)) (fun d => by dsimp only; omega) (by dsimp only; omega)
  split
  · exact key_at (fun l => p (ix2 r l)) (fun d => q (ix2 0 d)) l ⟨256 + (l.val - 128 - 128), by omega⟩ (fun d => ⟨256 + d.val, by omega⟩) ⟨l.val - 128 - 128, by omega⟩ (by first | rfl | (dsimp only; omega)) (fun d => by dsimp only; omega) (by dsimp only; omega)
  exact key_at (fun l => p (ix2 r l)) (fun d => q (ix2 0 d)) l ⟨384 + (l.val - 128 - 128 - 128), by omega⟩ (fun d => ⟨384 + d.val, by omega⟩) ⟨l.val - 128 - 128 - 128, by omega⟩ (by first | rfl | (dsimp only; omega)) (fun d => by dsimp only; omega) (by dsimp only; omega)

end Ker

section Ref

open Cert.MemKvRefIdeal Cert.MemKvRefIdeal.Gen

/-- The reference's normalised memory. -/
def HID (x : FVec Ideal S16x256x1024 .f32) (g : FVec Ideal S1x1024 .f32) : FVec Ideal S16x256x1024 .f32 :=
  mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ g shapeCasts_S1x1024_S1024)))

/-- The reference's projection. -/
def PROJ (x : FVec Ideal S16x256x1024 .f32) (g : FVec Ideal S1x1024 .f32) (w : FVec Ideal S1x1024x1024 .f32) : FVec Ideal S16x256x1024 .f32 :=
  Host.dotGeneral dot_S16x256x1024_S1024x1024_S16x256x1024_2_0_01_1_n_n none (HID x g) (shapeCast _ w shapeCasts_S1x1024x1024_S1024x1024)

/-- The heads of the projection's first half. -/
def HEADS (P : FVec Ideal S16x256x1024 .f32) : FVec Ideal S16x256x4x128 .f32 :=
  shapeCast _ (extractStridedSlice S16x256x512 ![0, 0, 0] P slices_S16x256x1024_S16x256x512_0_0_0) shapeCasts_S16x256x512_S16x256x4x128

/-- The reference's keys. -/
def RK (P : FVec Ideal S16x256x1024 .f32) (q : FVec Ideal S1x128 .f32) : FVec Ideal S16x256x512 .bf16 :=
  truncf .bf16 (shapeCast _ (mulf (mulf (HEADS P) (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf (HEADS P) (HEADS P)) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 (shapeCast _ q shapeCasts_S1x128_S128)))) shapeCasts_S16x256x4x128_S16x256x512) bitsLt_bf16_f32

/-- The reference's values. -/
def RV (P : FVec Ideal S16x256x1024 .f32) : FVec Ideal S16x256x512 .bf16 :=
  truncf .bf16 (extractStridedSlice S16x256x512 ![0, 0, 512] P slices_S16x256x1024_S16x256x512_0_0_512) bitsLt_bf16_f32

variable (x : FVec Ideal S16x256x1024 .f32) (g : FVec Ideal S1x1024 .f32) (w : FVec Ideal S1x1024x1024 .f32) (P : FVec Ideal S16x256x1024 .f32) (q : FVec Ideal S1x128 .f32)
  (b : Fin 16) (s : Fin 256)

theorem hid_at (k : Fin 1024) : HID x g (ix3 b s k) = nrm (fun k => x (ix3 b s k)) (fun k => g (ix2 0 k)) k := by
  pointwise [HID, nrm]

theorem proj_at (l : Fin 1024) : PROJ x g w (ix3 b s l) = lin (fun k => x (ix3 b s k)) (fun k => g (ix2 0 k)) (fun k => w (ix3 0 k l)) := by
  pointwise [PROJ, lin, hid_at]

theorem rv_at (l : Fin 512) : RV P (ix3 b s l) = P (ix3 b s ⟨512 + l.val, by omega⟩) := by
  pointwise [RV]

theorem heads_at (h : Fin 4) (d : Fin 128) : HEADS P (ix4 b s h d) = P (ix3 b s ⟨h.val * 128 + d.val, by omega⟩) := by
  pointwise [HEADS]

theorem rk_at (l : Fin 512) : RK P q (ix3 b s l) = key (fun l => P (ix3 b s l)) (fun d => q (ix2 0 d)) l := by
  have hl : l.val < 512 := l.isLt
  pointwise [RK, heads_at]
  exact key_at (fun l => P (ix3 b s l)) (fun d => q (ix2 0 d)) l ⟨l.val / 128 * 128 + l.val % 128, by omega⟩ (fun d => ⟨l.val / 128 * 128 + d.val, by omega⟩) ⟨l.val % 128, by omega⟩ (by dsimp only; omega) (fun d => rfl) rfl

end Ref

end Cert.Proof.MemKv

end
-- ==== Proof.MemKvFinal.lean ====
/-
  The memory's whole keys and values: block by block they are the reference's arrays.
-/
module

public import proofs.«01_k».proof.Proof.MemKvVal

@[expose] public section

set_option maxRecDepth 16384

noncomputable section

namespace Cert.Proof.MemKv

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

theorem x_at (c : Dev nD) (t : Fin cfg0.N) (b : Fin 16) (hb : b.val = t.val) (r : Fin 256) (k : Fin 1024) :
    (iblk m c 0 t : Vec Ideal S1x256x1024 .f32) (ix3 0 r k) = (m ((c : Thread nD τ).loc main_arg0) : FVec Ideal S16x256x1024 .f32) (ix3 b r k) := by
  blk_point [iblk, V, idx t]

theorem g_at (c : Dev nD) (t : Fin cfg0.N) (k : Fin 1024) :
    (iblk m c 1 t : Vec Ideal S1x1024 .f32) (ix2 0 k) = (m ((c : Thread nD τ).loc main_arg1) : FVec Ideal S1x1024 .f32) (ix2 0 k) := by
  blk_simp [iblk]
  entry_read
  pointwise
  blk_ext [idx t]

theorem w_at (c : Dev nD) (t : Fin cfg0.N) (k l : Fin 1024) :
    (iblk m c 2 t : Vec Ideal S1024x1024 .bf16) (ix2 k l) = (m ((c : Thread nD τ).loc main_arg2) : FVec Ideal S1x1024x1024 .f32) (ix3 0 k l) := by
  blk_simp [iblk]
  entry_read
  pointwise
  blk_ext [idx t]

theorem q_at (c : Dev nD) (t : Fin cfg0.N) (d : Fin 128) :
    (iblk m c 3 t : Vec Ideal S1x128 .f32) (ix2 0 d) = (m ((c : Thread nD τ).loc main_arg3) : FVec Ideal S1x128 .f32) (ix2 0 d) := by
  blk_simp [iblk]
  entry_read
  pointwise
  blk_ext [idx t]

/-- The kernel's projection is the reference's. -/
theorem point (c : Dev nD) (t : Fin cfg0.N) (b : Fin 16) (hb : b.val = t.val) (r : Fin 256) (l : Fin 1024) :
    k0_pay2 (F := Ideal) (iblk m c 0 t) (iblk m c 1 t) (iblk m c 2 t) (ix2 r l)
      = PROJ (m ((c : Thread nD τ).loc main_arg0)) (m ((c : Thread nD τ).loc main_arg1)) (m ((c : Thread nD τ).loc main_arg2)) (ix3 b r l) := by
  rw [ker_lin, proj_at]
  simp only [x_at m c t b hb, g_at, w_at]

/-- What a grid point leaves of the keys. -/
def blockK (x : Vec Ideal S1x256x1024 .f32) (g : Vec Ideal S1x1024 .f32) (w : Vec Ideal S1024x1024 .bf16) (q : Vec Ideal S1x128 .f32) : Vec Ideal S1x256x512 .bf16 :=
  k0_pay7 (F := Ideal) (k0_pay2 x g w) (k0_pay3 x g w q) (k0_pay4 x g w) (k0_pay5 q) (k0_pay6 x g w) q q

theorem p8 (x : Vec Ideal S1x256x1024 .f32) (g : Vec Ideal S1x1024 .f32) (w : Vec Ideal S1024x1024 .bf16) (q : Vec Ideal S1x128 .f32) :
    k0_pay8 (F := Ideal) x g w q = k0_pay2 x g w := by
  unfold k0_pay8
  simp (disch := decide) only [View.ld_unit_lit']

theorem pointK (c : Dev nD) (t : Fin cfg0.N) (b : Fin 16) (hb : b.val = t.val) (r : Fin 256) (l : Fin 512) :
    blockK (iblk m c 0 t) (iblk m c 1 t) (iblk m c 2 t) (iblk m c 3 t) (ix3 0 r l)
      = RK (PROJ (m ((c : Thread nD τ).loc main_arg0)) (m ((c : Thread nD τ).loc main_arg1)) (m ((c : Thread nD τ).loc main_arg2)))
          (m ((c : Thread nD τ).loc main_arg3)) (ix3 b r l) := by
  unfold blockK
  rw [ker_k, rk_at]
  simp only [point m c t b hb, q_at]

theorem pointV (c : Dev nD) (t : Fin cfg0.N) (b : Fin 16) (hb : b.val = t.val) (r : Fin 256) (l : Fin 512) :
    k0_pay1 (F := Ideal) (k0_pay2 (iblk m c 0 t) (iblk m c 1 t) (iblk m c 2 t)) (ix3 0 r l)
      = RV (PROJ (m ((c : Thread nD τ).loc main_arg0)) (m ((c : Thread nD τ).loc main_arg1)) (m ((c : Thread nD τ).loc main_arg2))) (ix3 b r l) := by
  rw [ker_v, rv_at, point m c t b hb]

theorem y_eq (y : S1x256x512.Idx) : y = ix3 0 (y 1) (y 2) := by
  funext a
  fin_cases a
  · exact Subsingleton.elim (α := Fin 1) _ _
  all_goals rfl

/-- The keys after the run. -/
theorem finalK (c : Dev nD) :
    (dats m 0 c).arrAt 4 cfg0.N
      = RK (PROJ (m ((c : Thread nD τ).loc main_arg0)) (m ((c : Thread nD τ).loc main_arg1)) (m ((c : Thread nD τ).loc main_arg2)))
          (m ((c : Thread nD τ).loc main_arg3)) := by
  refine (dats m 0 c).arrAt_eq_of_covers 4 _ (by decide +kernel) fun t _ y => ?_
  blk_simp
  rw [after0_4]
  frame_out
  rw [p8]
  have ht : t.val < 16 := t.isLt
  have e := pointK m c t ⟨t.val, by omega⟩ rfl (y 1) (y 2)
  refine Eq.trans (congrArg (blockK (iblk m c 0 t) (iblk m c 1 t) (iblk m c 2 t) (iblk m c 3 t)) (y_eq y)) ?_
  refine Eq.trans e (congrArg (RK (PROJ (m ((c : Thread nD τ).loc main_arg0)) (m ((c : Thread nD τ).loc main_arg1)) (m ((c : Thread nD τ).loc main_arg2)))
    (m ((c : Thread nD τ).loc main_arg3))) ?_)
  have h0 : (y 0).val < 1 := (y 0).isLt
  blk_ext [idx t]

/-- The values after the run. -/
theorem finalV (c : Dev nD) :
    (dats m 0 c).arrAt 5 cfg0.N
      = RV (PROJ (m ((c : Thread nD τ).loc main_arg0)) (m ((c : Thread nD τ).loc main_arg1)) (m ((c : Thread nD τ).loc main_arg2))) := by
  refine (dats m 0 c).arrAt_eq_of_covers 5 _ (by decide +kernel) fun t _ y => ?_
  blk_simp
  rw [after0_5]
  frame_out
  rw [p8]
  have ht : t.val < 16 := t.isLt
  have e := pointV m c t ⟨t.val, by omega⟩ rfl (y 1) (y 2)
  refine Eq.trans (congrArg (k0_pay1 (F := Ideal) (k0_pay2 (iblk m c 0 t) (iblk m c 1 t) (iblk m c 2 t))) (y_eq y)) ?_
  refine Eq.trans e (congrArg (RV (PROJ (m ((c : Thread nD τ).loc main_arg0)) (m ((c : Thread nD τ).loc main_arg1)) (m ((c : Thread nD τ).loc main_arg2)))) ?_)
  have h0 : (y 0).val < 1 := (y 0).isLt
  blk_ext [idx t]

end Cert.Proof.MemKv

end
-- ==== Proof.MemKvClaims.lean ====
/-
  The claims of the memory's keys and values: nothing was renamed, and the kernel's two arrays are the reference's, with
  no condition on the inputs.
-/
module

public import proofs.«01_k».proof.Defs
public import proofs.«01_k».proof.Proof.MemKvFinal
public import proofs.«01_k».proof.Proof.Gen.MemKv.Frame
public import Idealize.ShloMosaic.Lib.Quiescent

@[expose] public section

set_option maxRecDepth 16384
set_option maxHeartbeats 2000000

noncomputable section

namespace Cert.Proof.MemKv

open Idealize.ShloMosaic Idealize.ShloMosaic.TcCoe Idealize.SL.Sem

instance memFacts : Cert.MemKv.Facts := Cert.MemKv.Gen.facts
instance memIdealFacts : Cert.MemKvIdeal.Facts := Cert.MemKvIdeal.Gen.facts
instance memRefFacts : Cert.MemKvRefIdeal.Facts := Cert.MemKvRefIdeal.Gen.facts

section

open Cert.MemKvRefIdeal Cert.MemKvRefIdeal.Gen

theorem v33_eq (m : (ℓ : Loc nD τ sig) → Buf (Elt Ideal) ℓ) (c : Dev nD) : Cert.MemKvRefIdeal.Value.res_main_v33 (F := Ideal) m c
    = RK (PROJ (m ((c.tc : Thread nD τ).loc main_arg0)) (m ((c.tc : Thread nD τ).loc main_arg1)) (m ((c.tc : Thread nD τ).loc main_arg2)))
        (m ((c.tc : Thread nD τ).loc main_arg3)) := rfl

end

/-- The reference leaves its arguments as they were, and every counter at zero. -/
theorem frame_ri : Cert.quiescent_MemKvRefIdeal := fun m ρ _ =>
  (θ_run Cert.MemKvRefIdeal.defs _ _).mono (fun r h => ⟨fun c => (h c).2.2, Idealize.ShloMosaic.sem_eq_zero_of_no_sems (by decide) r.2⟩)
    (Cert.MemKvRefIdeal.Value.run (F := Ideal) m ρ)

/-- No operation was renamed. -/
theorem preserves : Cert.preserves_MemKv_MemKvIdeal := trivial

/-- The kernel's two results are the reference's. -/
theorem algebraic : Cert.algebraic_MemKvIdeal_MemKvRefIdeal := by
  intro m ρ m' ρ' hpre hagree
  refine ⟨_, _, Cert.MemKvIdeal.Value.run_blocks m ρ, ?_⟩
  refine (θ_run Cert.MemKvRefIdeal.defs _ _).mono (fun _ h c => ?_) (Cert.MemKvRefIdeal.Value.run (F := Ideal) m' ρ')
  obtain ⟨h0, h1, hs⟩ := h c
  obtain ⟨a0, a1, a2, a3⟩ := hagree c
  refine ⟨h0.trans ?_, h1.trans ?_, hs⟩
  · rw [v33_eq, a0, a1, a2, a3]
    exact (finalK m c).symm
  · rw [a0, a1, a2]
    exact (finalV m c).symm

end Cert.Proof.MemKv

end
-- ==== Proof.lean ====
/-
  The claims of this certificate, assembled: the frames are the generated ones, the rest is proved beside them.
-/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutIdeal.Value
public import proofs.«01_k».proof.Proof.Gen.MixOutRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvIdeal.Value
public import proofs.«01_k».proof.Proof.Gen.MemKvRefIdeal.Run
public import proofs.«01_k».proof.Proof.AttnClaims
public import proofs.«01_k».proof.Proof.InProjClaims
public import proofs.«01_k».proof.Proof.MixOutClaims
public import proofs.«01_k».proof.Proof.MemKvClaims
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.InProj.Gen.facts, Cert.InProjIdeal.Gen.facts, Cert.InProjRefIdeal.Gen.facts,
  Cert.MixOut.Gen.facts, Cert.MixOutIdeal.Gen.facts, Cert.MixOutRefIdeal.Gen.facts,
  Cert.MemKv.Gen.facts, Cert.MemKvIdeal.Gen.facts, Cert.MemKvRefIdeal.Gen.facts, Cert.Proof.Attn.preFacts,
  fun m ρ _ => Cert.Attn.Gen.frame m ρ,
  fun m ρ _ => Cert.AttnIdeal.Gen.frame m ρ,
  fun m ρ _ => Cert.AttnIdeal.Gen.frame m ρ,
  Cert.Proof.Attn.frame_ri,
  fun m ρ _ => Cert.Proof.Attn.frame_ri m ρ trivial,
  fun m ρ _ => Cert.InProj.Gen.frame m ρ,
  fun m ρ _ => Cert.InProjIdeal.Gen.frame m ρ,
  Cert.Proof.InProj.frame_ri,
  fun m ρ _ => Cert.MixOut.Gen.frame m ρ,
  fun m ρ _ => Cert.MixOutIdeal.Gen.frame m ρ,
  Cert.Proof.MixOut.frame_ri,
  fun m ρ _ => Cert.MemKv.Gen.frame m ρ,
  fun m ρ _ => Cert.MemKvIdeal.Gen.frame m ρ,
  Cert.Proof.MemKv.frame_ri,
  Cert.Proof.Attn.preserves,
  Cert.Proof.Attn.algebraic,
  Cert.Proof.InProj.preserves,
  Cert.Proof.InProj.algebraic,
  Cert.Proof.MixOut.preserves,
  Cert.Proof.MixOut.algebraic,
  Cert.Proof.MemKv.preserves,
  Cert.Proof.MemKv.algebraic⟩

end Cert.Proof

end
